-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 2, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x512 : Shape := ⟨3, ![1, 256, 512]⟩
abbrev S256x256 : Shape := ⟨2, ![256, 256]⟩
abbrev S256x512 : Shape := ⟨2, ![256, 512]⟩
abbrev S2x128x256 : Shape := ⟨3, ![2, 128, 256]⟩
abbrev S_ : Shape := ⟨0, ![]⟩
abbrev S2 : Shape := ⟨1, ![2]⟩
abbrev S1 : Shape := ⟨1, ![1]⟩
abbrev S1x128x256 : Shape := ⟨3, ![1, 128, 256]⟩
abbrev S128x256 : Shape := ⟨2, ![128, 256]⟩

abbrev nBuf : Space → Nat
  | .hbm => 2
  | .vmem => 3
  | .smem => 0
  | _ => 0

abbrev bufTy : (tb : Table) → Fin (tcTables nBuf tb) → BufTy
  | .hbm, ⟨0, _⟩ => ⟨S1x256x512, .f32⟩
  | .hbm, ⟨1, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S2x128x256, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6 : BitVec 32 := 8#32
  let v13 : BitVec 32 := Scalar.muli v2 c8_i32_6
  let v14 : BitVec 32 := Scalar.addi c0_i32_7 v13
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_8 : BitVec 32 := 4#32
  let v15 : BitVec 32 := Scalar.muli v9 c4_i32_8
  let v16 : BitVec 32 := Scalar.addi v14 v15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v17 : BitVec 32 := Scalar.muli v8 c1_i32_9
  let v18 : BitVec 32 := Scalar.addi v16 v17
  v18.toNat
def k0_cond1 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_14 : BitVec 32 := 0#32
  let v21 : BitVec 1 := Scalar.cmpi .eq v5 c0_i32_14
  let v22 : BitVec 32 := Scalar.extui v21
  let c0_i32_15 : BitVec 32 := 0#32
  let v23 : BitVec 1 := Scalar.cmpi .ne v22 c0_i32_15
  v23

def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v27 : BitVec 32 := Scalar.muli v2 c8_i32_21
  let v28 : BitVec 32 := Scalar.addi c0_i32_22 v27
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_23 : BitVec 32 := 4#32
  let v29 : BitVec 32 := Scalar.muli v9 c4_i32_23
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v31 : BitVec 32 := Scalar.muli v8 c1_i32_24
  let v32 : BitVec 32 := Scalar.addi v30 v31
  v32.toNat
def k0_dev3 (d0 : Dev nD) : Nat :=
  let c0_i32_32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_31 : BitVec 32 := 8#32
  let v40 : BitVec 32 := Scalar.muli v2 c8_i32_31
  let v41 : BitVec 32 := Scalar.addi c0_i32_32 v40
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_33 : BitVec 32 := 4#32
  let v42 : BitVec 32 := Scalar.muli v9 c4_i32_33
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v44 : BitVec 32 := Scalar.muli v8 c1_i32_34
  let v45 : BitVec 32 := Scalar.addi v43 v44
  v45.toNat
def k0_cond2 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_16 : BitVec 32 := 1#32
  let v24 : BitVec 1 := Scalar.cmpi .eq v5 c1_i32_16
  let v25 : BitVec 32 := Scalar.extui v24
  let c0_i32_17 : BitVec 32 := 0#32
  let v26 : BitVec 1 := Scalar.cmpi .ne v25 c0_i32_17
  v26

def k0_dev4 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v27 : BitVec 32 := Scalar.muli v2 c8_i32_21
  let v28 : BitVec 32 := Scalar.addi c0_i32_22 v27
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_23 : BitVec 32 := 4#32
  let v29 : BitVec 32 := Scalar.muli v9 c4_i32_23
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v31 : BitVec 32 := Scalar.muli v8 c1_i32_24
  let v32 : BitVec 32 := Scalar.addi v30 v31
  v32.toNat
def k0_dev5 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v40 : BitVec 32 := Scalar.muli v2 c8_i32_32
  let v41 : BitVec 32 := Scalar.addi c0_i32_33 v40
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_34 : BitVec 32 := 4#32
  let v42 : BitVec 32 := Scalar.muli v9 c4_i32_34
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v44 : BitVec 32 := Scalar.muli v8 c1_i32_35
  let v45 : BitVec 32 := Scalar.addi v43 v44
  v45.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Memory.lean ====
/-
# Where the kernel's data lies

The devices come in pairs along the mesh axis `y`: `peer c` is the other device of `c`'s pair, and `side c`, zero or one,
is `c`'s own coordinate on that axis. A device holds one 256 × 512 array. It keeps the 256 columns numbered by its side
and sends the other 256 to its peer, in two blocks of 128 rows (blocks 0 and 1).

This module names the windows of the buffers the kernel works on, each stated once for every block and every side, and
what the buffers hold.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ViewIndex

@[expose] public section

noncomputable section

namespace Cert.Pairs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pairs of devices -/

set_option backward.proofsInPublic true in
/-- The other device of `c`'s pair: the one that differs from it in the mesh coordinate `y` only. -/
def peer (c : Dev nD) : Dev nD := ⟨(8 * (c.val / 8) + c.val % 4 + 4) - 4 * ((c.val / 4) % 2), by
  have := c.isLt; simp only [nD] at this ⊢; omega⟩

/-- A device's coordinate on the mesh axis `y`. -/
def side (c : Dev nD) : Fin 2 := ⟨(c.val / 4) % 2, Nat.mod_lt _ (by decide)⟩

theorem peer_peer (c : Dev nD) : peer (peer c) = c := by revert c; decide
theorem side_peer_ne (c : Dev nD) : side (peer c) ≠ side c := by revert c; decide

/-- Swapping the two devices of every pair. -/
def swap : Dev nD ≃ Dev nD := ⟨peer, peer, peer_peer, peer_peer⟩

/-! ## The windows -/

theorem rows_inb (k y : Fin 2) : ∀ a, (![128 * k.val, 256 * y.val] : Fin 2 → ℕ) a + S128x256.size a ≤ S256x512.size a := by
  revert k y; decide
theorem slot_inb (k : Fin 2) : ∀ a, (![k.val, 0, 0] : Fin 3 → ℕ) a + S1x128x256.size a ≤ S2x128x256.size a := by
  revert k; decide
theorem out_inb (k : Fin 2) : ∀ a, (![128 * k.val, 0] : Fin 2 → ℕ) a + S128x256.size a ≤ S256x256.size a := by
  revert k; decide
theorem cols_inb (y : Fin 2) : ∀ a, (![0, 256 * y.val] : Fin 2 → ℕ) a + S256x256.size a ≤ S256x512.size a := by
  revert y; decide
theorem sem_inb (k : Fin 2) : ∀ a, (![k.val] : Fin 1 → ℕ) a + S1.size a ≤ S2.size a := by
  revert k; decide

/-- Rows `128 k … 128 k + 127`, columns `256 y … 256 y + 255` of a 256 × 512 array; -/
abbrev blockRect (k y : Fin 2) : Rect S256x512 := Rect.unit (s := S256x512) ![128 * k.val, 256 * y.val] S128x256.size (rows_inb k y)
/-- all its rows, those columns; -/
abbrev colsRect (y : Fin 2) : Rect S256x512 := Rect.unit (s := S256x512) ![0, 256 * y.val] S256x256.size (cols_inb y)
/-- the `k`-th of the two 128 × 256 slots of the landing buffer; -/
abbrev slotRect (k : Fin 2) : Rect S2x128x256 := Rect.unit (s := S2x128x256) ![k.val, 0, 0] S1x128x256.size (slot_inb k)
/-- rows `128 k … 128 k + 127` of the result. -/
abbrev outRect (k : Fin 2) : Rect S256x256 := Rect.unit (s := S256x256) ![128 * k.val, 0] S128x256.size (out_inb k)

/-- The device's array as it lies in the argument buffer; -/
abbrev argM : Memref sig .tc .hbm S256x512 .f32 :=
  ((Memref.whole main_arg0 : Memref sig .tc .hbm S1x256x512 .f32).slice (Rect.unit (s := S1x256x512) ![0, 0, 0] S1x256x512.size
    inb_S1x256x512_S1x256x512_0_0_0) (fun _ => rfl)).squeeze S256x512 squeezes_S1x256x512_S256x512
/-- its copy in vector memory, -/
abbrev xM : Memref sig .tc .vmem S256x512 .f32 := Memref.whole cc0_scratch0
/-- and a block of that copy; -/
abbrev blockM (k y : Fin 2) : Memref sig .tc .vmem S128x256 .f32 := xM.slice (blockRect k y) (fun _ => rfl)
/-- the landing buffer, -/
abbrev landM : Memref sig .tc .vmem S2x128x256 .f32 := Memref.whole cc0_scratch1
/-- and one of its slots; -/
abbrev slotM (k : Fin 2) : Memref sig .tc .vmem S128x256 .f32 :=
  (landM.slice (slotRect k) (fun _ => rfl)).squeeze S128x256 squeezes_S1x128x256_S128x256
/-- the result. -/
abbrev outM : Memref sig .tc .vmem S256x256 .f32 := Memref.whole cc0_stg0_0

/-! ## Which windows meet -/

theorem block_disjoint {k y k' y' : Fin 2} (h : k ≠ k' ∨ y ≠ y') : Disjoint (blockM k y).view.set (blockM k' y').view.set := by
  have hd : Disjoint (blockRect k y).set (blockRect k' y').set := by
    rcases h with h | h
    · refine Rect.disjoint_of_separated _ _ 0 ?_
      revert k k' y y'; decide
    · refine Rect.disjoint_of_separated _ _ 1 ?_
      revert k k' y y'; decide
  exact View.disjoint_slice (v := xM.view) hd

theorem slot_set (k : Fin 2) : (slotM k).view.set = (landM.view.slice (slotRect k)).set := View.set_reshape _ _

theorem slot_disjoint : Disjoint (slotM 0).view.set (slotM 1).view.set := by
  have hd : Disjoint (slotRect 0).set (slotRect 1).set := Rect.disjoint_of_separated _ _ 0 (by decide)
  rw [slot_set, slot_set]
  exact View.disjoint_slice (v := landM.view) hd

/-! ## What the buffers hold -/

section Contents

variable (m : (ℓ : Loc nD τ sig) → Buf (Elt F) ℓ)

/-- The array of device `c`. -/
def xval (c : Dev nD) : (cc0_scratch0 : Ref sig .tc).ty.Contents (Elt F) :=
  argM.view.read (Elt F) (m ((c : Thread nD τ).loc main_arg0))

/-- A block of rows of some columns of an array. -/
def blockOf (k y : Fin 2) (f : (cc0_scratch0 : Ref sig .tc).ty.Contents (Elt F)) : FVec F S128x256 .f32 :=
  (blockM k y).view.read (Elt F) f

/-- All rows of some columns of an array. -/
def colsOf (y : Fin 2) (f : (cc0_scratch0 : Ref sig .tc).ty.Contents (Elt F)) : FVec F S256x256 .f32 :=
  (xM.view.slice (colsRect y)).read (Elt F) f

/-- What device `c` computes: its own columns of its array plus the same columns of its peer's. -/
def outAt (c : Dev nD) : (cc0_stg0_0 : Ref sig .tc).ty.Contents (Elt F) :=
  addf (colsOf (side c) (xval m c)) (colsOf (side c) (xval m (peer c)))

/-- The same for one block of rows. -/
def outBlock (c : Dev nD) (k : Fin 2) : FVec F S128x256 .f32 :=
  addf (blockOf k (side c) (xval m c)) (blockOf k (side c) (xval m (peer c)))

/-- A block of rows of some columns, out of all rows of these columns. -/
theorem colsOf_emb (k y : Fin 2) (f : (cc0_scratch0 : Ref sig .tc).ty.Contents (Elt F)) (j : S128x256.Idx) :
    colsOf y f ((outRect k).emb j) = blockOf k y f j := by
  show f ((colsRect y).emb ((outRect k).emb j)) = f ((blockRect k y).emb j)
  refine congrArg f (funext fun a => Fin.ext ?_)
  simp only [Rect.emb_apply]
  fin_cases a <;> simp

theorem outAt_emb (c : Dev nD) (k : Fin 2) (j : S128x256.Idx) : outAt m c ((outRect k).emb j) = outBlock m c k j := by
  show FloatOps.addf _ _ = FloatOps.addf _ _
  rw [colsOf_emb, colsOf_emb]

/-- Every element of the result lies in one of the two blocks. -/
theorem out_cover (i : S256x256.Idx) : ∃ (k : Fin 2) (j : S128x256.Idx), (outRect k).emb j = i := by
  have h0 := (i 0).isLt
  have h1 := (i 1).isLt
  simp only [S256x256, Shape.size] at h0 h1
  have hk : (i 0).val / 128 < 2 := by simp at h0; omega
  have hi : i ∈ (outRect ⟨(i 0).val / 128, hk⟩).set := by
    rw [Rect.mem_set_unit]
    intro a
    fin_cases a <;> simp at h0 h1 ⊢ <;> omega
  rw [← Rect.map_emb_univ] at hi
  obtain ⟨j, -, hj⟩ := Finset.mem_map.mp hi
  exact ⟨_, j, hj⟩

theorem out_not_mem (j : S128x256.Idx) : (outRect 0).emb j ∉ Finset.univ.map (outRect 1).emb := by
  intro h
  have hd : Disjoint (outRect 0).set (outRect 1).set := Rect.disjoint_of_separated _ _ 0 (by decide)
  rw [← Rect.map_emb_univ, ← Rect.map_emb_univ] at hd
  exact Finset.disjoint_left.mp hd (Finset.mem_map_of_mem _ (Finset.mem_univ j)) h

/-- Storing the two blocks, whatever was there before, leaves the result. -/
theorem out_stored (c : Dev nD) (f : (cc0_stg0_0 : Ref sig .tc).ty.Contents (Elt F)) :
    (outM.access (outRect 1)).write (Elt F) ((outM.access (outRect 0)).write (Elt F) f (outBlock m c 0) Finset.univ)
      (outBlock m c 1) Finset.univ = outAt m c := by
  funext i
  obtain ⟨k, j, rfl⟩ := out_cover i
  rw [outAt_emb]
  show outM.view.read (Elt F) ((outM.view.slice (outRect 1)).write (Elt F) ((outM.view.slice (outRect 0)).write (Elt F) f
    (outBlock m c 0) Finset.univ) (outBlock m c 1) Finset.univ) ((outRect k).emb j) = outBlock m c k j
  by_cases hk : k = 0
  · subst hk
    exact (View.read_slice_write_of_not_mem (v := outM.view) (outRect 1) _ _ _ (out_not_mem j)).trans
      (View.read_slice_write_emb (v := outM.view) (outRect 0) _ _ (Finset.mem_univ j))
  · obtain rfl : k = 1 := by omega
    exact View.read_slice_write_emb (v := outM.view) (outRect 1) _ _ (Finset.mem_univ j)

/-- Adding what a slot holds, as the kernel reads and adds it. -/
def addSlot (v : Vec F S128x256 .f32) (w : Vec F S1x128x256 .f32) : FVec F S128x256 .f32 :=
  addf v (shapeCast S128x256 w shapeCasts_S1x128x256_S128x256)

theorem addSlot_read (k : Fin 2) (v : Vec F S128x256 .f32) (f : (cc0_scratch1 : Ref sig .tc).ty.Contents (Elt F)) :
    addSlot v (landM.view.readAt (Elt F) (slotRect k).toLoadRect f) = addf v ((slotM k).view.read (Elt F) f) := rfl

end Contents

end Cert.Pairs

end
-- ==== Proof.Schedule.lean ====
/-
# The semaphores: who raises them, and what each raise hands over

Every device uses six semaphores once each: the barrier, raised by its peer; the one its own copy from the argument
completes on; and, for each of the two blocks, the one its transfer out completes on (`send`) and the one the peer's
transfer in completes on (`recv`). So each semaphore has one round of one duty. This module states what each duty hands to
the device that waits for it, what a device owes at the start, and in which order the waits may be made.
-/
module

public import proofs.«01_k».proof.Proof.Memory
public import Idealize.ShloMosaic.Lib.Rounds

@[expose] public section

noncomputable section

namespace Cert.Pairs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the staging pipeline's, and the six semaphores' -/

abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

/-! ## The six semaphores of a device -/

/-- The uses a device makes of a semaphore. -/
inductive Cell
  | bar
  | copy
  | send (k : Fin 2)
  | recv (k : Fin 2)
  deriving DecidableEq

/-- All six. -/
def Cell.list : List Cell := [.bar, .copy, .send 0, .send 1, .recv 0, .recv 1]

theorem Cell.mem_list (x : Cell) : x ∈ Cell.list := by
  cases x with
  | bar => decide
  | copy => decide
  | send k => revert k; decide
  | recv k => revert k; decide

instance : Fintype Cell := ⟨Cell.list.toFinset, fun x => List.mem_toFinset.mpr x.mem_list⟩

abbrev barS : Sem sig := (SemArray.scalar (sig.barrier 0 rfl) : Sems sig S_).sem
abbrev copyS : DmaSems sig S_ := cc0_scratch2
abbrev sendS (k : Fin 2) : DmaSems sig S_ :=
  (SemArray.slice (cc0_scratch3 : DmaSems sig S2) (Rect.unit (s := S2) ![k.val] S1.size (sem_inb k))).squeeze S_ squeezes_S1_S_
abbrev recvS (k : Fin 2) : DmaSems sig S_ :=
  (SemArray.slice (cc0_scratch4 : DmaSems sig S2) (Rect.unit (s := S2) ![k.val] S1.size (sem_inb k))).squeeze S_ squeezes_S1_S_

/-- The semaphore behind each use. -/
abbrev Cell.sem : Cell → SemLoc sig
  | .bar => .reg barS
  | .copy => .dma copyS.sem
  | .send k => .dma (sendS k).sem
  | .recv k => .dma (recvS k).sem

theorem Cell.sem_inj {x y : Cell} (h : x.sem = y.sem) : x = y := by
  have hall : ∀ x ∈ Cell.list, ∀ y ∈ Cell.list, x.sem = y.sem → x = y := by decide
  exact hall x x.mem_list y y.mem_list h

/-- Device `c`'s semaphore of that use. -/
abbrev cellAt (c : Dev nD) (x : Cell) : GSem nD τ sig := ((c : Thread nD τ), x.sem)

/-- What a raise of it adds: one for the barrier, the size of the transfer for the others. -/
def Cell.amt : Cell → ℕ
  | .bar => 1
  | .copy => xM.view.dmaCredit
  | .send _ => (slotM 0).view.dmaCredit
  | .recv _ => (slotM 0).view.dmaCredit

theorem Cell.amt_pos (x : Cell) : 0 < x.amt := by
  cases x with
  | bar => exact Nat.one_pos
  | copy => exact View.dmaCredit_pos _ (by decide)
  | send k => exact View.dmaCredit_pos _ (by decide)
  | recv k => exact View.dmaCredit_pos _ (by decide)

/-! ## What the raises hand over -/

section Payloads

variable (m : (ℓ : Loc nD τ sig) → Buf (Elt F) ℓ)

/-- The argument's elements, as launched. -/
def argPts (c : Dev nD) : sProp 𝕄 :=
  argM.view.loc (c : Thread nD τ) ↦[argM.view.set]{fullShare} m ((c : Thread nD τ).loc main_arg0)
/-- The copy of the device's array, complete. -/
def xPts (c : Dev nD) : sProp 𝕄 := xM.view.loc (c : Thread nD τ) ↦[xM.view.set]{fullShare} xval m c
/-- One block of it. -/
def blockPts (c : Dev nD) (k y : Fin 2) : sProp 𝕄 :=
  (blockM k y).view.loc (c : Thread nD τ) ↦[(blockM k y).view.set]{fullShare} xval m c
/-- A slot of the landing buffer, at some contents. -/
def slotPts (c : Dev nD) (k : Fin 2) (f : Buf (Elt F) ((slotM k).view.loc (c : Thread nD τ))) : sProp 𝕄 :=
  (slotM k).view.loc (c : Thread nD τ) ↦[(slotM k).view.set]{fullShare} f
/-- A slot ready to be written by a transfer from the peer. -/
def slotFree (c : Dev nD) (k : Fin 2) : sProp 𝕄 :=
  iprop((∃ f, slotPts c k f) ∗ reached ER (cellAt c (.recv k)) 0)
/-- A slot after the peer's transfer: it holds the peer's block of `c`'s columns. -/
def slotFull (c : Dev nD) (k : Fin 2) : sProp 𝕄 :=
  owns (c : Thread nD τ) (slotM k) fullShare (blockOf k (side c) (xval m (peer c)))

/-- What the raise of each semaphore of `c` hands `c`. -/
def pay (c : Dev nD) : Cell → sProp 𝕄
  | .bar => iprop(slotFree (peer c) 0 ∗ slotFree (peer c) 1)
  | .copy => iprop(xPts m c ∗ argPts m c)
  | .send k => blockPts m c k (side (peer c))
  | .recv k => slotFull m c k

instance pay_storable (c : Dev nD) (x : Cell) : BI.Storable (upEmb : UEmb _ 𝕄) (pay (F := F) m c x) := by
  cases x <;> (unfold pay; try unfold slotFree; try unfold slotPts; try unfold xPts; try unfold argPts; try unfold blockPts; try unfold slotFull) <;>
    infer_instance

/-- One round of one duty for each of the six semaphores of every device. -/
def sched : Rounds.Schedule (GSem nD τ sig) Unit 𝕄 where
  duties g r := if r = 0 ∧ g.1.2 = .tc ∧ ∃ x : Cell, x.sem = g.2 then {()} else ∅
  unitless _ := False
  amount g _ _ := if h : ∃ x : Cell, x.sem = g.2 then h.choose.amt else 1
  payload g _ _ := if h : ∃ x : Cell, x.sem = g.2 then pay m g.1.1 h.choose else iprop(emp)
  amount_pos g _ _ _ := by
    split
    · exact Cell.amt_pos _
    · exact Nat.one_pos

instance sched_storable (g : GSem nD τ sig) (r : ℕ) (d : Unit) : BI.Storable (upEmb : UEmb _ 𝕄) ((sched (F := F) m).payload g r d) := by
  show BI.Storable upEmb (if h : ∃ x : Cell, x.sem = g.2 then pay m g.1.1 h.choose else iprop(emp))
  split <;> infer_instance

theorem choose_sem (x : Cell) (h : ∃ y : Cell, y.sem = x.sem) : h.choose = x := Cell.sem_inj h.choose_spec

theorem duties_now (c : Dev nD) (x : Cell) : (sched (F := F) m).duties (cellAt c x) 0 = {()} :=
  if_pos ⟨rfl, rfl, x, rfl⟩
theorem duty_mem (c : Dev nD) (x : Cell) : () ∈ (sched (F := F) m).duties (cellAt c x) 0 := by
  rw [duties_now]; exact Finset.mem_singleton_self _
theorem duties_later (g : GSem nD τ sig) : ∀ r, 1 ≤ r → (sched (F := F) m).duties g r = ∅ :=
  fun r hr => if_neg fun h => by omega
theorem amount_eq (c : Dev nD) (x : Cell) (d : Unit) : (sched (F := F) m).amount (cellAt c x) 0 d = x.amt := by
  have h : ∃ y : Cell, y.sem = x.sem := ⟨x, rfl⟩
  exact (dif_pos h).trans (congrArg Cell.amt (choose_sem x h))
theorem payload_eq (c : Dev nD) (x : Cell) (d : Unit) : (sched (F := F) m).payload (cellAt c x) 0 d = pay m c x := by
  have h : ∃ y : Cell, y.sem = x.sem := ⟨x, rfl⟩
  exact (dif_pos h).trans (congrArg (pay m c) (choose_sem x h))
theorem expect_eq (c : Dev nD) (x : Cell) : (sched (F := F) m).expect (cellAt c x) 0 = x.amt := by
  unfold Schedule.expect Schedule.amountOf
  rw [duties_now, Finset.sum_singleton, amount_eq]
/-- What waiting for a whole round hands over. -/
theorem rest_eq (c : Dev nD) (x : Cell) :
    bigSep ((sched (F := F) m).duties (cellAt c x) 0 \ ∅) (fun d => (sched (F := F) m).payload (cellAt c x) 0 d) = pay m c x := by
  rw [Finset.sdiff_empty, duties_now, bigSep_singleton, payload_eq]

end Payloads

/-! ## What a device owes, and the order of the waits -/

/-- After its first transfer a device still owes the second block, -/
def owe1 (c : Dev nD) : CellTallies nD τ sig Unit := tallyAt (cellAt (peer c) (.recv 1)) () (Cell.recv 1).amt
/-- after the barrier both blocks, -/
def owe2 (c : Dev nD) : CellTallies nD τ sig Unit := owe1 c + tallyAt (cellAt (peer c) (.recv 0)) () (Cell.recv 0).amt
/-- and at the start also its raise of the peer's barrier. -/
def owe3 (c : Dev nD) : CellTallies nD τ sig Unit := owe2 c + tallyAt (cellAt (peer c) .bar) () Cell.bar.amt

def L (g : GSem nD τ sig) : Finset Unit := if g.1.2 = .tc then {()} else ∅
theorem L_of_ne (g : GSem nD τ sig) (h : g.1.2 ≠ .tc) : L g = ∅ := if_neg h
theorem L_tc (c : Dev nD) (s : SemLoc sig) : L ((c : Thread nD τ), s) = {()} := if_pos rfl

/-- Receive semaphores rank above the barriers, and these above all others. -/
def lv (g : GSem nD τ sig) (_ : Unit) : ℕ :=
  if g.2 = (Cell.recv 0).sem ∨ g.2 = (Cell.recv 1).sem then 2 else if g.2 = Cell.bar.sem then 1 else 0

theorem lv_recv (c : Dev nD) (k : Fin 2) (u : Unit) : lv (cellAt c (.recv k)) u = 2 := by
  revert k; exact Fin.forall_fin_two.mpr ⟨if_pos (.inl rfl), if_pos (.inr rfl)⟩
theorem lv_bar (c : Dev nD) (u : Unit) : lv (cellAt c .bar) u = 1 := by
  unfold lv; rw [if_neg (by rintro (h | h) <;> cases h), if_pos rfl]

theorem owe2_pos {c : Dev nD} {g : GSem nD τ sig} {u : Unit} (h : 0 < owe2 c g u) : ∃ k, g = cellAt (peer c) (.recv k) := by
  unfold owe2 owe1 at h
  rw [Pi.add_apply, Finsupp.add_apply, tallyAt_apply, tallyAt_apply] at h
  by_contra hn
  rw [not_exists] at hn
  rw [if_neg fun h' => hn 1 h'.1, if_neg fun h' => hn 0 h'.1] at h
  exact Nat.lt_irrefl 0 h

theorem owe3_pos {c : Dev nD} {g : GSem nD τ sig} {u : Unit} (h : 0 < owe3 c g u) :
    (∃ k, g = cellAt (peer c) (.recv k)) ∨ g = cellAt (peer c) .bar := by
  unfold owe3 at h
  rw [Pi.add_apply, Finsupp.add_apply, tallyAt_apply] at h
  by_cases hb : g = cellAt (peer c) .bar
  · exact .inr hb
  · rw [if_neg fun h' => hb h'.1, Nat.add_zero] at h
    exact .inl (owe2_pos h)

/-- While it owes the two blocks only, a device may wait on any semaphore that is not a receive semaphore: -/
theorem mayWait_owe2 (c : Dev nD) (s : SemLoc sig) (hs : lv ((c : Thread nD τ), s) () ≤ 1) :
    (levAts L lv : sProp 𝕄) ⊢ MayWait (c : Thread nD τ) s () (owe2 c) :=
  MayOwe.of_cut (L := L) (lev := lv) 1 (fun p hp => by rw [Finset.mem_singleton.mp hp, L_tc]; exact Finset.mem_singleton_self _)
    (fun g u hg => by obtain ⟨k, rfl⟩ := owe2_pos hg; exact Finset.mem_singleton_self _)
    (fun p hp => by rw [Finset.mem_singleton.mp hp]; exact hs)
    (fun g u hg => by obtain ⟨k, rfl⟩ := owe2_pos hg; rw [lv_recv]; decide)

/-- while it also owes its peer's barrier, only on one that is not a barrier either. -/
theorem mayWait_owe3 (c : Dev nD) (s : SemLoc sig) (hs : lv ((c : Thread nD τ), s) () = 0) :
    (levAts L lv : sProp 𝕄) ⊢ MayWait (c : Thread nD τ) s () (owe3 c) :=
  MayOwe.of_cut (L := L) (lev := lv) 0 (fun p hp => by rw [Finset.mem_singleton.mp hp, L_tc]; exact Finset.mem_singleton_self _)
    (fun g u hg => by rcases owe3_pos hg with ⟨k, rfl⟩ | rfl <;> exact Finset.mem_singleton_self _)
    (fun p hp => by rw [Finset.mem_singleton.mp hp]; exact hs.le)
    (fun g u hg => by
      rcases owe3_pos hg with ⟨k, rfl⟩ | rfl
      · rw [lv_recv]; decide
      · rw [lv_bar]; decide)

end Cert.Pairs

end
-- ==== Proof.Exchange.lean ====
/-
# One exchange between a device and its peer

The part of the kernel that differs between the two sides is written once here, for a device that keeps the columns `y`
and sends the columns `s`: two transfers out, then for each block the wait for the peer's block and the addition, then the
waits for the two transfers out. The rules below say what each step takes and gives; none of them asks which side it is on.
-/
module

public import proofs.«01_k».proof.Proof.Schedule

@[expose] public section

noncomputable section

namespace Cert.Pairs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of the kernel's body. -/
abbrev Prg (F : FTy → Type) (α : Type) : Type 1 := Prog (TpuEff nD τ sig (Elt F) Λ₀ .tc) α

/-! ## The program -/

/-- The transfer of block `k` of the columns `s` to device `n`. -/
def sendBlock (n : Dev nD) (k s : Fin 2) : Prg F PUnit :=
  Prog.lift (.enqueueDma (blockM k s) (.remote (Dev.tc n) (slotM k) (.dma (sendS k).sem)) (.dma (recvS k).sem)
    (View.wordExact_bits rfl) ((View.wordExact_bits rfl).reshape _ _) ⟨⟨rfl, Or.inl rfl⟩, trivial⟩)

/-- The wait for the peer's block `k`, and its addition to the device's own. -/
def addBlock (k y s : Fin 2) : Prg F PUnit := do
  Prog.lift (.waitDma2 (recvS k).sem (blockM k s) (slotM k) (View.wordExact_bits rfl) ((View.wordExact_bits rfl).reshape _ _))
  let v : Vec F S128x256 .f32 ← Prog.lift (.load xM (blockRect k y).toLoadRect (View.loadsAt_vmem h_S128x256))
  let w : Vec F S1x128x256 .f32 ← Prog.lift (.load landM (slotRect k).toLoadRect (View.loadsAt_vmem h_S1x128x256))
  let _old : Vec F S128x256 .f32 ← Prog.lift (.load outM (outRect k).toLoadRect (View.loadsAt_vmem h_S128x256))
  Prog.lift (.store outM (outRect k) (addSlot v w) Finset.univ (View.stores_vmem_bits_univ h_S128x256 rfl) (.inl rfl))

/-- The wait for the transfer out of block `k`. -/
def doneBlock (k s : Fin 2) : Prg F PUnit :=
  Prog.lift (.waitDma2 (sendS k).sem (slotM k) (blockM k s) ((View.wordExact_bits rfl).reshape _ _) (View.wordExact_bits rfl))

/-- The whole exchange of a device that keeps the columns `y`. -/
def exchange (n0 n1 : Dev nD) (y s : Fin 2) : Prg F PUnit := do
  sendBlock n0 0 s
  sendBlock n1 1 s
  addBlock 0 y s
  addBlock 1 y s
  doneBlock 0 s
  doneBlock 1 s

/-! ## Its steps -/

/-- A block's transfer counts the same at a slot and at a block of the array. -/
theorem slot_credit (k : Fin 2) : (slotM k).view.dmaCredit = (slotM 0).view.dmaCredit := rfl
theorem block_credit (k s : Fin 2) : (blockM k s).view.dmaCredit = (slotM 0).view.dmaCredit := by
  show (blockM 0 0).view.dmaCredit = _
  decide

section Steps

variable (m : (ℓ : Loc nD τ sig) → Buf (Elt F) ℓ) (K : Dev nD × Cell → ℕ)

/-- The invariant of a device's semaphore, under the name it was given. -/
abbrev inv (c : Dev nD) (x : Cell) : sProp 𝕄 := cellInv ER (sched m) (K (c, x)) (cellAt c x)
/-- Before and after the one wait on a semaphore. -/
abbrev pos (c : Dev nD) (x : Cell) : sProp 𝕄 := atPos ER (cellAt c x) 0 ∅ 0
abbrev posDone (c : Dev nD) (x : Cell) : sProp 𝕄 := atPos ER (cellAt c x) (0 + 1) ∅ 0
abbrev tok (c : Dev nD) (x : Cell) : sProp 𝕄 := dutyTok ER (cellAt c x) 0 ()
abbrev mark (c : Dev nD) (x : Cell) : sProp 𝕄 := reached ER (cellAt c x) 0
/-- The credit a wait on it spends. -/
abbrev crd (c : Dev nD) (x : Cell) : sProp 𝕄 := cred (tallyAt (cellAt c x) () x.amt)

/-- The weakest precondition of a continuation on device `c`. -/
abbrev wpc (c : Dev nD) {α : Type} (p : Prg F α) (Q : α → sProp 𝕄) : sProp 𝕄 :=
  wp frame (wpE (defs₀ (F := F)) Variants.none (c : Thread nD τ) none) Set.univ p Q

/-- A transfer out pays the device's own send duty and the peer's receive duty. -/
theorem wp_sendBlock (c n : Dev nD) (hn : n = peer c) (k s : Fin 2) (hs : s = side (peer c))
    {α : Type} {Q : α → sProp 𝕄} {cont : PUnit → Prg F α} (O : CellTallies nD τ sig Unit)
    (f : Buf (Elt F) ((slotM k).view.loc (peer c : Thread nD τ))) (W : Waits sig Unit) :
    iprop(inv m K c (.send k) ∗ inv m K (peer c) (.recv k) ∗ blockPts m c k s ∗ slotPts (peer c) k f
        ∗ owes (c : Thread nD τ) (O + tallyAt (cellAt (peer c) (.recv k)) () (Cell.recv k).amt) W
        ∗ tok c (.send k) ∗ mark c (.send k) ∗ tok (peer c) (.recv k) ∗ mark (peer c) (.recv k))
      ⊢ iprop(((crd c (.send k) ∗ owes (c : Thread nD τ) O W) -∗ wpc c (cont ⟨⟩) Q) -∗ wpc c (sendBlock n k s >>= cont) Q) := by
  subst hn hs
  unfold blockPts slotPts sendBlock
  exact Rounds.wp_send_pointsTo Variants.none ER (sched m) (c : Thread nD τ) none (κ₁ := K (c, .send k)) (κ₂ := K (peer c, .recv k))
    (r₁ := 0) (r₂ := 0) (d₁ := ()) (d₂ := ()) (fd := f)
    (duty_mem m c (.send k)) (duty_mem m (peer c) (.recv k))
    () () (Cell.recv k).amt rfl (amount_eq m c (.send k) ()) (amount_eq m (peer c) (.recv k) ()) O rfl (W := W)
    (by rw [payload_eq m c (.send k) ()]; exact BI.Entails.refl _)
    (by
      rw [payload_eq m (peer c) (.recv k) ()]
      unfold pay slotFull owns
      iintro H
      iexists ((slotM k).view.write (Elt F) f ((blockM k (side (peer c))).view.read (Elt F) (xval m c)) Finset.univ)
      isplitr
      · ipureintro
        rw [View.read_write_univ, peer_peer]; rfl
      · iexact H)

/-- A wait on one of the device's semaphores, with the credit of its one raise, gets what that raise hands over. -/
theorem wp_waitCell (c : Dev nD) (x : Cell) {w : TpuEff nD τ sig (Elt F) Λ₀ .tc PUnit}
    (hw : ∀ Q : PUnit → sProp 𝕄, wpE (defs₀ (F := F)) Variants.none (c : Thread nD τ) none Set.univ w Q
      = waitSpec (c : Thread nD τ) Set.univ x.sem x.amt Q)
    {α : Type} {Q : α → sProp 𝕄} {cont : PUnit → Prg F α} (O : CellTallies nD τ sig Unit) (W : Waits sig Unit) :
    iprop(inv m K c x ∗ crd c x ∗ owes (c : Thread nD τ) O W ∗ MayWait (c : Thread nD τ) x.sem () O ∗ pos c x)
      ⊢ iprop(((owes (c : Thread nD τ) O (insert (x.sem, ()) W) ∗ posDone c x ∗ pay m c x) -∗ wpc c (cont ⟨⟩) Q)
          -∗ wpc c (Prog.op w cont) Q) := by
  iintro H Hk
  iapply (Rounds.wp_wait_rest_token Variants.none ER (sched m) (c : Thread nD τ) none (κ := K (c, x)) hw (Set.mem_univ _) ()
    (O := O) (W := W) (R := 0) (m := 0) (T := ∅) (by rw [Nat.zero_add, expect_eq])) $$ H
  iintro ⟨HO, Hat, -, Hpay⟩
  ihave Hp := (Entails.of_eq (rest_eq m c x)) $$ Hpay
  iapply Hk
  isplitl [HO]; · iexact HO
  isplitl [Hat]; · iexact Hat
  iexact Hp

theorem waitRecv_spec (c : Dev nD) (k s : Fin 2) (h₁ : (blockM k s).view.WordExact) (h₂ : (slotM k).view.WordExact) (Q : PUnit → sProp 𝕄) :
    wpE (defs₀ (F := F)) Variants.none (c : Thread nD τ) none Set.univ (.waitDma2 (recvS k).sem (blockM k s) (slotM k) h₁ h₂) Q
      = waitSpec (c : Thread nD τ) Set.univ (Cell.recv k).sem (Cell.recv k).amt Q :=
  wpE_waitDma2_eq Variants.none (c : Thread nD τ) none Set.univ Q

theorem waitSend_spec (c : Dev nD) (k s : Fin 2) (h₁ : (slotM k).view.WordExact) (h₂ : (blockM k s).view.WordExact) (Q : PUnit → sProp 𝕄) :
    wpE (defs₀ (F := F)) Variants.none (c : Thread nD τ) none Set.univ (.waitDma2 (sendS k).sem (slotM k) (blockM k s) h₁ h₂) Q
      = waitSpec (c : Thread nD τ) Set.univ (Cell.send k).sem (Cell.send k).amt Q := by
  rw [wpE_waitDma2_eq Variants.none (c : Thread nD τ) none Set.univ Q, block_credit]
  rfl

/-- The peer's block arrives and the sum is stored: of the copy of the array any elements will do that include the block
    added to, and of the result nothing needs to be known. -/
theorem wp_addBlock (c : Dev nD) (k y s : Fin 2) (hy : y = side c)
    {S : Finset (Idx (xM.view.loc (c : Thread nD τ)))} (hS : (blockM k y).view.set ⊆ S)
    {α : Type} {Q : α → sProp 𝕄} {cont : PUnit → Prg F α}
    (f : (cc0_stg0_0 : Ref sig .tc).ty.Contents (Elt F)) (W : Waits sig Unit) :
    iprop(inv m K c (.recv k) ∗ crd c (.recv k) ∗ owes (c : Thread nD τ) 0 W ∗ pos c (.recv k)
        ∗ (xM.view.loc (c : Thread nD τ) ↦[S]{fullShare} xval m c)
        ∗ (((c : Thread nD τ).loc cc0_stg0_0) ↦{fullShare} f))
      ⊢ iprop(((owes (c : Thread nD τ) 0 (insert ((Cell.recv k).sem, ()) W) ∗ posDone c (.recv k) ∗ slotFull m c k
            ∗ (xM.view.loc (c : Thread nD τ) ↦[S]{fullShare} xval m c)
            ∗ (((c : Thread nD τ).loc cc0_stg0_0) ↦{fullShare}
                (outM.access (outRect k)).write (Elt F) f (outBlock m c k) Finset.univ)) -∗ wpc c (cont ⟨⟩) Q)
          -∗ wpc c (addBlock k y s >>= cont) Q) := by
  subst hy
  unfold addBlock
  simp only [Prog.lift, Prog.bind_op, Prog.bind_ret, Prog.pure_eq_ret]
  iintro ⟨HI, Hc, HO, Hat, Hx, Hout⟩ Hk
  iapply (wp_waitCell m K c (.recv k) (waitRecv_spec c k s _ _) 0 W) $$ [HI Hc HO Hat]
  · isplitl [HI]; · iexact HI
    isplitl [Hc]; · iexact Hc
    isplitl [HO]; · iexact HO
    isplitr; · rw [MayWait_zero]; iempintro
    iexact Hat
  iintro ⟨HO, Hat, Hslot⟩
  unfold pay slotFull owns
  icases Hslot with ⟨%g, %hg, Hslot⟩
  iapply (wp_load_rect Variants.none (c : Thread nD τ) none Set.univ (m := xM) (r := blockRect k (side c)) hS) $$ Hx; iintro Hx
  iapply (wp_load_rect Variants.none (c : Thread nD τ) none Set.univ (m := landM) (r := slotRect k) (slot_set k).ge) $$ Hslot; iintro Hslot
  iapply (wp_load Variants.none (c : Thread nD τ) none Set.univ (m := outM) (Finset.subset_univ _)) $$ Hout; iintro Hout
  iapply (wp_store Variants.none (c : Thread nD τ) none Set.univ (m := outM) (r := outRect k) (Mk := Finset.univ) (Finset.subset_univ _)) $$ Hout
  iintro Hout
  iapply Hk
  isplitl [HO]; · iexact HO
  isplitl [Hat]; · iexact Hat
  isplitl [Hslot]
  · iexists g
    isplitr; · ipureintro; exact hg
    iexact Hslot
  isplitl [Hx]; · iexact Hx
  have hsum : addSlot (blockOf k (side c) (xval m c)) (landM.view.readAt (Elt F) (slotRect k).toLoadRect g) = outBlock m c k := by
    rw [addSlot_read, hg]; rfl
  rw [← hsum]
  iexact Hout

/-- The block sent comes back. -/
theorem wp_doneBlock (c : Dev nD) (k s : Fin 2) (hs : s = side (peer c))
    {α : Type} {Q : α → sProp 𝕄} {cont : PUnit → Prg F α} (W : Waits sig Unit) :
    iprop(inv m K c (.send k) ∗ crd c (.send k) ∗ owes (c : Thread nD τ) 0 W ∗ pos c (.send k))
      ⊢ iprop(((owes (c : Thread nD τ) 0 (insert ((Cell.send k).sem, ()) W) ∗ posDone c (.send k) ∗ blockPts m c k s) -∗ wpc c (cont ⟨⟩) Q)
          -∗ wpc c (doneBlock k s >>= cont) Q) := by
  subst hs
  unfold doneBlock
  iintro ⟨HI, Hc, HO, Hat⟩ Hk
  iapply (wp_waitCell m K c (.send k) (waitSend_spec c k _ _ _) 0 W) $$ [HI Hc HO Hat]
  · isplitl [HI]; · iexact HI
    isplitl [Hc]; · iexact Hc
    isplitl [HO]; · iexact HO
    isplitr; · rw [MayWait_zero]; iempintro
    iexact Hat
  iexact Hk

/-! ## All of it -/

/-- What every device knows: the invariant of every semaphore, and that its round has begun. -/
def known : sProp 𝕄 :=
  iprop((bigSep Finset.univ fun cx : Dev nD × Cell => inv m K cx.1 cx.2) ∗ bigSep Finset.univ fun cx : Dev nD × Cell => mark cx.1 cx.2)

instance known_persistent : BI.Persistent (known (F := F) m K) := by unfold known; infer_instance

theorem known_inv (c : Dev nD) (x : Cell) : known m K ⊢ inv m K c x :=
  sep_elim_left.trans (bigSep_elim (Finset.mem_univ (c, x)))
theorem known_mark (c : Dev nD) (x : Cell) : known (F := F) m K ⊢ mark c x :=
  sep_elim_right.trans (bigSep_elim (Finset.mem_univ (c, x)))

/-- The elements of the array that stay while the columns `s` are being sent. -/
def stay (s : Fin 2) : Finset (cc0_scratch0 : Ref sig .tc).ty.Idx := (Finset.univ \ (blockM 0 s).view.set) \ (blockM 1 s).view.set

theorem block_sdiff {k k' y y' : Fin 2} (h : k ≠ k' ∨ y ≠ y') {S : Finset (cc0_scratch0 : Ref sig .tc).ty.Idx}
    (hS : (blockM k y).view.set ⊆ S) : (blockM k y).view.set ⊆ S \ (blockM k' y').view.set :=
  Finset.subset_sdiff.mpr ⟨hS, block_disjoint h⟩

theorem block_stay {k y s : Fin 2} (h : y ≠ s) : (blockM k y).view.set ⊆ stay s :=
  block_sdiff (.inr h) (block_sdiff (.inr h) (Finset.subset_univ _))

/-- The array is the two blocks sent and what stays. -/
theorem x_split (c : Dev nD) (s : Fin 2) : xPts m c ⊣⊢
    iprop(blockPts m c 0 s ∗ blockPts m c 1 s ∗ (xM.view.loc (c : Thread nD τ) ↦[stay s]{fullShare} xval m c)) := by
  have h1 : (blockM 1 s).view.set ⊆ Finset.univ \ (blockM 0 s).view.set :=
    block_sdiff (.inl (by decide)) (Finset.subset_univ _)
  have hu : xPts m c = (xM.view.loc (c : Thread nD τ) ↦[Finset.univ]{fullShare} xval m c : sProp 𝕄) := by
    unfold xPts; rw [View.set_whole]
  rw [hu]
  exact (pointsTo_split_subset (Finset.subset_univ _)).trans (sep_congr .rfl (pointsTo_split_subset h1))

/-- What the exchange of block `k` takes: both positions, the duties it pays, the credit of the peer's transfer, and the
    peer's slot; -/
def exIn (c : Dev nD) (k : Fin 2) : sProp 𝕄 :=
  iprop(pos c (.send k) ∗ pos c (.recv k) ∗ tok c (.send k) ∗ tok (peer c) (.recv k) ∗ crd c (.recv k) ∗ ∃ f, slotPts (peer c) k f)
/-- and what it leaves: the positions after the waits, and the device's own slot, written. -/
def exOut (c : Dev nD) (k : Fin 2) : sProp 𝕄 :=
  iprop(posDone c (.send k) ∗ posDone c (.recv k) ∗ slotFull m c k)

/-- The exchange: with both blocks owed to the peer and the result at any contents, it ends with nothing owed and the result
    the device's columns of its own array plus the same columns of its peer's. -/
theorem wp_exchange (c n0 n1 : Dev nD) (h0 : n0 = peer c) (h1 : n1 = peer c) (y s : Fin 2) (hy : y = side c) (hs : s = side (peer c))
    {α : Type} {Q : α → sProp 𝕄} {cont : PUnit → Prg F α}
    (f : (cc0_stg0_0 : Ref sig .tc).ty.Contents (Elt F)) (W : Waits sig Unit) :
    iprop(known m K ∗ exIn c 0 ∗ exIn c 1 ∗ xPts m c ∗ (((c : Thread nD τ).loc cc0_stg0_0) ↦{fullShare} f)
        ∗ owes (c : Thread nD τ) (owe2 c) W)
      ⊢ iprop(((exOut m c 0 ∗ exOut m c 1 ∗ xPts m c ∗ (((c : Thread nD τ).loc cc0_stg0_0) ↦{fullShare} outAt m c)
            ∗ ∃ W', owes (c : Thread nD τ) 0 W') -∗ wpc c (cont ⟨⟩) Q)
          -∗ wpc c (exchange n0 n1 y s >>= cont) Q) := by
  have hys : y ≠ s := by rw [hs, hy]; exact (side_peer_ne c).symm
  unfold exchange
  simp only [bind_assoc]
  unfold exIn exOut
  iintro ⟨#HK, ⟨HaS0, HaR0, HtS0, HtR0, HcR0, ⟨%f0, Hn0⟩⟩, ⟨HaS1, HaR1, HtS1, HtR1, HcR1, ⟨%f1, Hn1⟩⟩, Hx, Hout, HO⟩ Hk
  ihave Hxs := (x_split m c s).1 $$ Hx
  icases Hxs with ⟨Hb0, Hb1, Hx⟩
  unfold owe2
  iapply (wp_sendBlock m K c n0 h0 0 s hs (owe1 c) f0 W) $$ [Hb0 Hn0 HO HtS0 HtR0]
  · isplitr; · iapply (known_inv m K c (.send 0)); iexact HK
    isplitr; · iapply (known_inv m K (peer c) (.recv 0)); iexact HK
    isplitl [Hb0]; · iexact Hb0
    isplitl [Hn0]; · iexact Hn0
    isplitl [HO]; · iexact HO
    isplitl [HtS0]; · iexact HtS0
    isplitr; · iapply (known_mark m K c (.send 0)); iexact HK
    isplitl [HtR0]; · iexact HtR0
    iapply (known_mark m K (peer c) (.recv 0)); iexact HK
  iintro ⟨HcS0, HO⟩
  rw [show owe1 c = 0 + tallyAt (cellAt (peer c) (.recv 1)) () (Cell.recv 1).amt from (zero_add _).symm]
  iapply (wp_sendBlock m K c n1 h1 1 s hs 0 f1 W) $$ [Hb1 Hn1 HO HtS1 HtR1]
  · isplitr; · iapply (known_inv m K c (.send 1)); iexact HK
    isplitr; · iapply (known_inv m K (peer c) (.recv 1)); iexact HK
    isplitl [Hb1]; · iexact Hb1
    isplitl [Hn1]; · iexact Hn1
    isplitl [HO]; · iexact HO
    isplitl [HtS1]; · iexact HtS1
    isplitr; · iapply (known_mark m K c (.send 1)); iexact HK
    isplitl [HtR1]; · iexact HtR1
    iapply (known_mark m K (peer c) (.recv 1)); iexact HK
  iintro ⟨HcS1, HO⟩
  iapply (wp_addBlock m K c 0 y s hy (block_stay hys) f W) $$ [HcR0 HO HaR0 Hx Hout]
  · isplitr; · iapply (known_inv m K c (.recv 0)); iexact HK
    isplitl [HcR0]; · iexact HcR0
    isplitl [HO]; · iexact HO
    isplitl [HaR0]; · iexact HaR0
    isplitl [Hx] <;> iassumption
  iintro ⟨HO, HaR0, Hs0, Hx, Hout⟩
  iapply (wp_addBlock m K c 1 y s hy (block_stay hys) _ _) $$ [HcR1 HO HaR1 Hx Hout]
  · isplitr; · iapply (known_inv m K c (.recv 1)); iexact HK
    isplitl [HcR1]; · iexact HcR1
    isplitl [HO]; · iexact HO
    isplitl [HaR1]; · iexact HaR1
    isplitl [Hx] <;> iassumption
  iintro ⟨HO, HaR1, Hs1, Hx, Hout⟩
  rw [out_stored m c f]
  iapply (wp_doneBlock m K c 0 s hs _) $$ [HcS0 HO HaS0]
  · isplitr; · iapply (known_inv m K c (.send 0)); iexact HK
    isplitl [HcS0]; · iexact HcS0
    isplitl [HO] <;> iassumption
  iintro ⟨HO, HaS0, Hb0⟩
  iapply (wp_doneBlock m K c 1 s hs _) $$ [HcS1 HO HaS1]
  · isplitr; · iapply (known_inv m K c (.send 1)); iexact HK
    isplitl [HcS1]; · iexact HcS1
    isplitl [HO] <;> iassumption
  iintro ⟨HO, HaS1, Hb1⟩
  iapply Hk
  isplitl [HaS0 HaR0 Hs0]
  · isplitl [HaS0]; · iexact HaS0
    isplitl [HaR0] <;> iassumption
  isplitl [HaS1 HaR1 Hs1]
  · isplitl [HaS1]; · iexact HaS1
    isplitl [HaR1] <;> iassumption
  isplitl [Hb0 Hb1 Hx]
  · iapply (x_split m c s).2
    isplitl [Hb0]; · iexact Hb0
    isplitl [Hb1] <;> iassumption
  isplitl [Hout]; · iexact Hout
  iexists _
  iexact HO

end Steps

end Cert.Pairs

end
-- ==== Proof.Body.lean ====
/-
# The kernel's body on one device
-/
module

public import proofs.«01_k».proof.Proof.Exchange

@[expose] public section

noncomputable section

namespace Cert.Pairs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The copy of the device's array out of the argument, begun; -/
def startCopy : Prg F PUnit :=
  Prog.lift (.enqueueDma argM (.here xM) (.dma copyS.sem) ((View.wordExact_bits rfl).reshape _ _) (Memref.isWhole_whole _).wordExact
    ⟨Or.inl rfl, trivial⟩)
/-- and awaited. -/
def endCopy : Prg F PUnit :=
  Prog.lift (.waitDma2 copyS.sem argM xM ((View.wordExact_bits rfl).reshape _ _) (Memref.isWhole_whole _).wordExact)

/-- The kernel's body, with its two cases written as the one exchange. -/
def body : Prg F PUnit := do
  let c : Dev nD ← Prog.lift .deviceId
  startCopy
  semSignalWord (⟨k0_dev1 c, k0_dev1_lt c⟩ : Dev nD) barS 1#32
  semWaitWord barS 1#32
  endCopy
  if h : k0_cond1 c = 1#1 then exchange ⟨k0_dev2 c, k0_dev2_lt c h⟩ ⟨k0_dev3 c, k0_dev3_lt c h⟩ 0 1 else pure ⟨⟩
  if h : k0_cond2 c = 1#1 then exchange ⟨k0_dev4 c, k0_dev4_lt c h⟩ ⟨k0_dev5 c, k0_dev5_lt c h⟩ 1 0 else pure ⟨⟩
  pure ⟨⟩

set_option maxRecDepth 65536 in
/-- The kernel's program is that body. -/
theorem body_eq : cc0_body (F := F) (Memref.whole main_arg0) (Memref.isWhole_whole _) (Memref.whole cc0_stg0_0) (Memref.isWhole_whole _)
    (Memref.whole cc0_scratch0) (Memref.isWhole_whole _) (Memref.whole cc0_scratch1) (Memref.isWhole_whole _)
    cc0_scratch2 cc0_scratch3 cc0_scratch4 = body := by
  rfl

/-! ## The states before and after -/

section Run

variable (m : (ℓ : Loc nD τ sig) → Buf (Elt F) ℓ) (K : Dev nD × Cell → ℕ)

/-- A separating conjunction over the six semaphores, listed. -/
theorem bigSep_cells (Φ : Cell → sProp 𝕄) :
    bigSep Finset.univ Φ = iprop(Φ .bar ∗ Φ .copy ∗ Φ (.send 0) ∗ Φ (.send 1) ∗ Φ (.recv 0) ∗ Φ (.recv 1)) :=
  bigSep_univ_eq_bigSepL Cell.list rfl (by decide) Φ

/-- The duties device `c` pays: its own transfers' on its own side, its peer's barrier and its peer's receives. -/
def duties (c : Dev nD) : sProp 𝕄 :=
  iprop(tok (peer c) .bar ∗ tok c .copy ∗ tok c (.send 0) ∗ tok c (.send 1) ∗ tok (peer c) (.recv 0) ∗ tok (peer c) (.recv 1))
/-- The credit of the raises its peer owes it. -/
def credits (c : Dev nD) : sProp 𝕄 := iprop(crd c .bar ∗ crd c (.recv 0) ∗ crd c (.recv 1))
/-- What a device holds of the protocol before it runs. -/
def ready (c : Dev nD) : sProp 𝕄 :=
  iprop(known m K ∗ (bigSep Finset.univ fun x : Cell => pos c x) ∗ duties c ∗ credits c ∗ levAts L lv)
/-- The memory outside the staging buffer: the argument, as launched, and the two scratch buffers. -/
def memory (c : Dev nD) : sProp 𝕄 :=
  iprop((((c : Thread nD τ).loc main_arg0) ↦{fullShare} m ((c : Thread nD τ).loc main_arg0))
    ∗ (∃ f : (cc0_scratch0 : Ref sig .tc).ty.Contents (Elt F), ((c : Thread nD τ).loc cc0_scratch0) ↦{fullShare} f)
    ∗ (∃ f : (cc0_scratch1 : Ref sig .tc).ty.Contents (Elt F), ((c : Thread nD τ).loc cc0_scratch1) ↦{fullShare} f))
/-- All six counters at zero. -/
def quiet (c : Dev nD) : sProp 𝕄 := bigSep Finset.univ fun x : Cell => semVal (cellAt c x) 0

/-! ## The pieces of the memory -/

/-- The elements of the argument that the copy does not read, if any, stay aside. -/
def argRest (c : Dev nD) : sProp 𝕄 :=
  argM.view.loc (c : Thread nD τ) ↦[Finset.univ \ argM.view.set]{fullShare} m ((c : Thread nD τ).loc main_arg0)

theorem arg_split (c : Dev nD) :
    (((c : Thread nD τ).loc main_arg0) ↦{fullShare} m ((c : Thread nD τ).loc main_arg0) : sProp 𝕄) ⊣⊢ iprop(argPts m c ∗ argRest m c) :=
  pointsTo_split_subset (Finset.subset_univ _)

theorem xPts_eq (c : Dev nD) : xPts m c = (((c : Thread nD τ).loc cc0_scratch0) ↦{fullShare} xval m c : sProp 𝕄) := by
  unfold xPts; rw [View.set_whole]

/-- The landing buffer outside the two slots. -/
def landRest (c : Dev nD) (f : Buf (Elt F) (landM.view.loc (c : Thread nD τ))) : sProp 𝕄 :=
  landM.view.loc (c : Thread nD τ) ↦[(Finset.univ \ (slotM 0).view.set) \ (slotM 1).view.set]{fullShare} f

theorem slot1_rest : (slotM 1).view.set ⊆ Finset.univ \ (slotM 0).view.set :=
  Finset.subset_sdiff.mpr ⟨Finset.subset_univ _, slot_disjoint.symm⟩

theorem land_split (c : Dev nD) (f : Buf (Elt F) (landM.view.loc (c : Thread nD τ))) :
    (((c : Thread nD τ).loc cc0_scratch1) ↦{fullShare} f : sProp 𝕄) ⊢ iprop(slotPts c 0 f ∗ slotPts c 1 f ∗ landRest c f) :=
  (pointsTo_split_subset (Finset.subset_univ _)).1.trans (sep_mono_right (pointsTo_split_subset slot1_rest).1)

theorem land_join (c : Dev nD) (f g h : Buf (Elt F) (landM.view.loc (c : Thread nD τ))) :
    iprop(slotPts c 0 g ∗ slotPts c 1 h ∗ landRest c f)
      ⊢ (∃ f : (cc0_scratch1 : Ref sig .tc).ty.Contents (Elt F), ((c : Thread nD τ).loc cc0_scratch1) ↦{fullShare} f : sProp 𝕄) := by
  refine (sep_mono_right (pointsTo_join_subset slot1_rest)).trans ((pointsTo_join_subset (Finset.subset_univ _)).trans ?_)
  iintro H
  iexists _
  iexact H

/-- A written slot is a slot at some contents. -/
theorem slotFull_pts (c : Dev nD) (k : Fin 2) : slotFull m c k ⊢ iprop(∃ f, slotPts c k f) := by
  unfold slotFull owns slotPts
  iintro ⟨%f, -, H⟩
  iexists f
  iexact H

/-! ## The steps before the exchange -/

/-- The copy out of the argument pays its own duty. -/
theorem wp_startCopy (c : Dev nD) {α : Type} {Q : α → sProp 𝕄} {cont : PUnit → Prg F α}
    (f : (cc0_scratch0 : Ref sig .tc).ty.Contents (Elt F)) :
    iprop(inv m K c .copy ∗ argPts m c ∗ (((c : Thread nD τ).loc cc0_scratch0) ↦{fullShare} f) ∗ tok c .copy ∗ mark c .copy)
      ⊢ iprop((crd c .copy -∗ wpc c (cont ⟨⟩) Q) -∗ wpc c (startCopy >>= cont) Q) := by
  have hd : (((c : Thread nD τ).loc cc0_scratch0) ↦{fullShare} f : sProp 𝕄)
      = (xM.view.loc (c : Thread nD τ) ↦[xM.view.set]{fullShare} f : sProp 𝕄) := by rw [View.set_whole]
  rw [hd]
  unfold argPts startCopy
  exact Rounds.wp_copy_pointsTo Variants.none ER (sched m) (c : Thread nD τ) none (κ := K (c, .copy)) (r := 0) (d := ())
    (duty_mem m c .copy) () Cell.copy.amt rfl (amount_eq m c .copy ())
    (by
      rw [payload_eq m c .copy ()]
      unfold pay xPts argPts
      rw [show xM.view.write (Elt F) f (argM.view.read (Elt F) (m ((c : Thread nD τ).loc main_arg0))) Finset.univ = xval m c from
        View.write_whole_univ _ _ _])

/-- Once the waits are done every semaphore is the device's again, at zero. -/
theorem close_cells (c : Dev nD) : iprop(known m K ∗ bigSep Finset.univ fun x : Cell => posDone c x) ⊢ |={Set.univ}=> quiet (F := F) c := by
  refine (sep_mono_left (BI.bigSep_of_persistent (Finset.univ : Finset Cell) (known m K))).trans ?_
  rw [← bigSep_sep']
  refine (bigSep_mono fun x _ => ?_).trans (bigSep_fupd _ _)
  exact (sep_mono_left (known_inv m K c x)).trans
    (Rounds.cell_close ER (sched m) (Set.mem_univ (K (c, x))) (fun h => h) (R := 0 + 1) (duties_later m (cellAt c x)))

/-! ## The run -/

/-- The two cases are one: whichever side the device is on, it runs the one exchange with its own columns and its peer's. -/
theorem cases_eq (c : Dev nD) :
    (do
      if h : k0_cond1 c = 1#1 then exchange ⟨k0_dev2 c, k0_dev2_lt c h⟩ ⟨k0_dev3 c, k0_dev3_lt c h⟩ 0 1 else pure ⟨⟩
      if h : k0_cond2 c = 1#1 then exchange ⟨k0_dev4 c, k0_dev4_lt c h⟩ ⟨k0_dev5 c, k0_dev5_lt c h⟩ 1 0 else pure ⟨⟩
      pure ⟨⟩ : Prg F PUnit)
      = exchange (peer c) (peer c) (side c) (side (peer c)) >>= fun _ => pure ⟨⟩ := by
  have hc : (k0_cond1 c = 1#1 ∧ k0_cond2 c ≠ 1#1 ∧ side c = 0 ∧ side (peer c) = 1)
      ∨ (k0_cond1 c ≠ 1#1 ∧ k0_cond2 c = 1#1 ∧ side c = 1 ∧ side (peer c) = 0) := by
    revert c; decide
  rcases hc with ⟨h1, h2, hs, hp⟩ | ⟨h1, h2, hs, hp⟩
  · rw [dif_pos h1, dif_neg h2, hs, hp, show (⟨k0_dev2 c, k0_dev2_lt c h1⟩ : Dev nD) = peer c from Fin.ext (k0_dev2_eq c),
      show (⟨k0_dev3 c, k0_dev3_lt c h1⟩ : Dev nD) = peer c from Fin.ext (k0_dev3_eq c)]
  · rw [dif_neg h1, dif_pos h2, hs, hp, show (⟨k0_dev4 c, k0_dev4_lt c h2⟩ : Dev nD) = peer c from Fin.ext (k0_dev4_eq c),
      show (⟨k0_dev5 c, k0_dev5_lt c h2⟩ : Dev nD) = peer c from Fin.ext (k0_dev5_eq c)]

/-- The body on one device: from the protocol's start and any contents of the result, it ends with the argument untouched, the
    result computed, nothing owed and every counter at zero. -/
theorem wp_body (c : Dev nD) (f : (cc0_stg0_0 : Ref sig .tc).ty.Contents (Elt F)) (W : Waits sig Unit) :
    iprop(ready m K c ∗ memory m c ∗ (((c : Thread nD τ).loc cc0_stg0_0) ↦{fullShare} f) ∗ owes (c : Thread nD τ) (owe3 c) W)
      ⊢ wpc c body fun _ => iprop(memory m c ∗ quiet c ∗ (((c : Thread nD τ).loc cc0_stg0_0) ↦{fullShare} outAt m c)
          ∗ ∃ W', owes (c : Thread nD τ) 0 W') := by
  unfold body endCopy
  simp only [cases_eq]
  simp only [semSignalWord, semWaitWord, Prog.lift, Prog.bind_op, Prog.bind_ret, Prog.pure_eq_ret, wp_deviceId]
  rw [show (⟨k0_dev1 c, k0_dev1_lt c⟩ : Dev nD) = peer c from Fin.ext (k0_dev1_eq c)]
  unfold ready memory duties credits
  rw [bigSep_cells]
  iintro ⟨⟨#HK, ⟨HaB, HaC, HaS0, HaS1, HaR0, HaR1⟩, ⟨HtB, HtC, HtS0, HtS1, HtR0, HtR1⟩, ⟨HcB, HcR0, HcR1⟩, #Hlev⟩,
    ⟨Harg, ⟨%fx, Hx⟩, ⟨%fl, Hl⟩⟩, Hout, HO⟩
  ihave Ha := (arg_split m c).1 $$ Harg
  icases Ha with ⟨Harg, Hrest⟩
  ihave Hs := (land_split c fl) $$ Hl
  icases Hs with ⟨Hl0, Hl1, Hlr⟩
  iapply (wp_startCopy m K c fx) $$ [Harg Hx HtC]
  · isplitr; · iapply (known_inv m K c .copy); iexact HK
    isplitl [Harg]; · iexact Harg
    isplitl [Hx]; · iexact Hx
    isplitl [HtC]; · iexact HtC
    iapply (known_mark m K c .copy); iexact HK
  iintro HcC
  iapply (Rounds.wp_signal Variants.none ER (sched m) (c : Thread nD τ) none (dst := (peer c : Thread nD τ)) (κ := K (peer c, .bar))
      (d := ()) (duty_mem m (peer c) .bar) (amount_eq m (peer c) .bar ()) () (owe2 c) rfl) $$ [HO HtB Hl0 Hl1]
  · isplitr; · iapply (known_inv m K (peer c) .bar); iexact HK
    isplitl [HO]; · iexact HO
    isplitl [HtB]; · iexact HtB
    isplitl [Hl0 Hl1]
    · rw [payload_eq m (peer c) .bar ()]
      unfold pay slotFree
      rw [peer_peer]
      isplitl [Hl0]
      · isplitl [Hl0]; · iexists fl; iexact Hl0
        iapply (known_mark m K c (.recv 0)); iexact HK
      · isplitl [Hl1]; · iexists fl; iexact Hl1
        iapply (known_mark m K c (.recv 1)); iexact HK
    iapply (known_mark m K (peer c) .bar); iexact HK
  iintro HO
  iapply (wp_waitCell m K c .bar (wpE_semWait_eq Variants.none (c : Thread nD τ) none Set.univ) (owe2 c) W) $$ [HcB HO HaB]
  · isplitr; · iapply (known_inv m K c .bar); iexact HK
    isplitl [HcB]; · iexact HcB
    isplitl [HO]; · iexact HO
    isplitr; · iapply (mayWait_owe2 c _ (lv_bar c ()).le); iexact Hlev
    iexact HaB
  unfold pay slotFree
  iintro ⟨HO, HaB, ⟨Hn0, -⟩, ⟨Hn1, -⟩⟩
  iapply (wp_waitCell m K c .copy (wpE_waitDma2_eq Variants.none (c : Thread nD τ) none Set.univ) (owe2 c) _) $$ [HcC HO HaC]
  · isplitr; · iapply (known_inv m K c .copy); iexact HK
    isplitl [HcC]; · iexact HcC
    isplitl [HO]; · iexact HO
    isplitr; · iapply (mayWait_owe2 c _ (by decide +revert)); iexact Hlev
    iexact HaC
  unfold pay
  iintro ⟨HO, HaC, Hx, Harg⟩
  iapply (wp_exchange m K c (peer c) (peer c) rfl rfl (side c) (side (peer c)) rfl rfl f _)
    $$ [HaS0 HaR0 HtS0 HtR0 HcR0 Hn0 HaS1 HaR1 HtS1 HtR1 HcR1 Hn1 Hx Hout HO]
  · unfold exIn
    isplitr; · iexact HK
    isplitl [HaS0 HaR0 HtS0 HtR0 HcR0 Hn0]
    · isplitl [HaS0]; · iexact HaS0
      isplitl [HaR0]; · iexact HaR0
      isplitl [HtS0]; · iexact HtS0
      isplitl [HtR0]; · iexact HtR0
      isplitl [HcR0] <;> iassumption
    isplitl [HaS1 HaR1 HtS1 HtR1 HcR1 Hn1]
    · isplitl [HaS1]; · iexact HaS1
      isplitl [HaR1]; · iexact HaR1
      isplitl [HtS1]; · iexact HtS1
      isplitl [HtR1]; · iexact HtR1
      isplitl [HcR1] <;> iassumption
    isplitl [Hx]; · iexact Hx
    isplitl [Hout] <;> iassumption
  unfold exOut
  iintro ⟨⟨HaS0, HaR0, Hs0⟩, ⟨HaS1, HaR1, Hs1⟩, Hx, Hout, HO⟩
  imod (close_cells m K c) $$ [HaB HaC HaS0 HaS1 HaR0 HaR1] with Hz
  · rw [bigSep_cells]
    isplitr; · iexact HK
    isplitl [HaB]; · iexact HaB
    isplitl [HaC]; · iexact HaC
    isplitl [HaS0]; · iexact HaS0
    isplitl [HaS1]; · iexact HaS1
    isplitl [HaR0] <;> iassumption
  rw [wp_ret]
  imodintro
  ihave Hl0 := (slotFull_pts m c 0) $$ Hs0
  icases Hl0 with ⟨%g0, Hl0⟩
  ihave Hl1 := (slotFull_pts m c 1) $$ Hs1
  icases Hl1 with ⟨%g1, Hl1⟩
  isplitl [Harg Hrest Hx Hl0 Hl1 Hlr]
  · isplitl [Harg Hrest]
    · iapply (arg_split m c).2
      isplitl [Harg] <;> iassumption
    isplitl [Hx]
    · iexists xval m c
      iapply (Entails.of_eq (xPts_eq m c)); iexact Hx
    iapply (land_join c fl g0 g1)
    isplitl [Hl0]; · iexact Hl0
    isplitl [Hl1] <;> iassumption
  isplitl [Hz]; · iexact Hz
  isplitl [Hout] <;> iassumption

end Run

end Cert.Pairs

end
-- ==== Proof.Deal.lean ====
/-
# Dealing out the protocol at the launch

The launch hands every device its counters at zero and, for the semaphores of the protocol, the invariants' initial states,
positions and duty tokens. Here each duty goes to the device that pays it, and the credit of what each device owes its
peer to that peer.
-/
module

public import proofs.«01_k».proof.Proof.Body

@[expose] public section

noncomputable section

namespace Cert.Pairs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores and the duties as sets -/

theorem cellAt_inj {c d : Dev nD} {x y : Cell} (h : cellAt c x = cellAt d y) : c = d ∧ x = y :=
  ⟨congrArg (fun g : GSem nD τ sig => g.1.1) h, Cell.sem_inj (congrArg Prod.snd h)⟩

def cellE : Dev nD × Cell ↪ GSem nD τ sig := ⟨fun cx => cellAt cx.1 cx.2, fun _ _ h => Prod.ext (cellAt_inj h).1 (cellAt_inj h).2⟩
def dutyE : Dev nD × Cell ↪ GSem nD τ sig × ℕ × Unit :=
  ⟨fun cx => (cellAt cx.1 cx.2, 0, ()), fun _ _ h => cellE.injective (congrArg Prod.fst h)⟩

def cells : Finset (GSem nD τ sig) := Finset.univ.map cellE
def allDuties : Finset (GSem nD τ sig × ℕ × Unit) := Finset.univ.map dutyE

/-- What the launch starts from: the pipeline's own bookkeeping, and the protocol's. -/
def u₀ : UU := (initOf (Pipeline.cells cfgs cellOf_inj) (Pipeline.launchToks cfgs cellOf_inj), initOf cells allDuties)

theorem bigSep_all (Φ : GSem nD τ sig → sProp 𝕄) :
    bigSep cells Φ = bigSep Finset.univ fun c : Dev nD => bigSep Finset.univ fun x : Cell => Φ (cellAt c x) := by
  unfold cells; rw [bigSep_map, bigSep_univ_prod]; rfl

section Deal

variable (m : (ℓ : Loc nD τ sig) → Buf (Elt F) ℓ)

/-- A device's share before any exchange between devices: for each of its own semaphores the protocol's state, the
    position, the mark and the duty. -/
def share₀ (c : Dev nD) : sProp 𝕄 :=
  iprop((bigSep Finset.univ fun x : Cell => roundState ER (sched m) (cellAt c x) 0) ∗ (bigSep Finset.univ fun x : Cell => pos c x)
    ∗ (bigSep Finset.univ fun x : Cell => mark c x) ∗ bigSep Finset.univ fun x : Cell => tok c x)

/-- Its share after: everything known, its positions, and the duties that it pays itself. -/
def share₁ (c : Dev nD) : sProp 𝕄 := iprop(∃ K, known m K ∗ (bigSep Finset.univ fun x : Cell => pos c x) ∗ duties c)

theorem fund_shares : BI.own (ER (initOf cells allDuties)) ⊢ (|==> bigSep Finset.univ (share₀ m) : sProp 𝕄) := by
  have hT : bigSep allDuties (fun t => (dutyTok ER t.1 t.2.1 t.2.2 : sProp 𝕄))
      = bigSep Finset.univ fun c : Dev nD => bigSep Finset.univ fun x : Cell => tok c x := by
    unfold allDuties; rw [bigSep_map, bigSep_univ_prod]; rfl
  refine (Rounds.fund ER (sched m) cells allDuties).trans (BI.bupd_mono ?_)
  unfold share₀
  rw [hT, bigSep_all, bigSep_all, bigSep_all, bigSep_sep', bigSep_sep', bigSep_sep']
  show _ ⊢ (_ : sProp 𝕄)
  iintro ⟨Hst, Hm, Hat, Ht⟩
  isplitl [Hst]; · iexact Hst
  isplitl [Hat]; · iexact Hat
  isplitl [Hm] <;> iassumption

/-! ## The counters -/

/-- The semaphores of the kernel's own; the barrier is the runtime's. -/
abbrev own : Fin 5 → SemLoc sig
  | 0 => Cell.copy.sem | 1 => (Cell.send 0).sem | 2 => (Cell.send 1).sem | 3 => (Cell.recv 0).sem | 4 => (Cell.recv 1).sem

theorem own_facts : Pipeline.OwnSemFacts cfg0.spec own := by decide

/-- Together they are the six. -/
theorem counters_eq (c : Dev nD) : (iprop(unscopedSems0 c
      ∗ Pipeline.ownSems0 (Ix := Unit) (Name := ℕ) (U := UU) (Lvl := ℕ) (Val := Elt F) (τ := τ) own c) : sProp 𝕄) = quiet c := by
  unfold quiet unscopedSems0
  rw [bigSep_cells, bigSep_eq_bigSepL_of_eq [SemLoc.reg barS] (by decide) (by decide),
    Pipeline.ownSems0_eq_of_list c own [0, 1, 2, 3, 4] (by decide) (by decide)]
  rfl

/-! ## One device's invariants -/

theorem alloc_one (c : Dev nD) :
    iprop(quiet c ∗ bigSep Finset.univ fun x : Cell => roundState ER (sched m) (cellAt c x) 0)
      ⊢ (|={Set.univ}=> bigSep Finset.univ fun x : Cell => iprop(∃ κ : ℕ, cellInv ER (sched m) κ (cellAt c x)) : sProp 𝕄) := by
  unfold quiet
  rw [← bigSep_sep']
  exact (bigSep_mono fun x _ => (Rounds.body_intro ER (sched m) (cellAt c x)).trans inv_alloc).trans (bigSep_fupd _ _)

/-- Every device's duty on its peer's semaphores comes from that peer. -/
theorem deal_duties : (bigSep Finset.univ fun c : Dev nD => bigSep Finset.univ fun x : Cell => (tok c x : sProp 𝕄))
    ⊢ bigSep Finset.univ fun c : Dev nD => duties (F := F) c := by
  unfold duties
  simp only [bigSep_cells, bigSep_sep']
  rw [bigSep_univ_equiv swap (fun c : Dev nD => (tok c .bar : sProp 𝕄)),
    bigSep_univ_equiv swap (fun c : Dev nD => (tok c (.recv 0) : sProp 𝕄)),
    bigSep_univ_equiv swap (fun c : Dev nD => (tok c (.recv 1) : sProp 𝕄))]
  exact BI.Entails.refl _

/-- The shares of all devices, brought together and dealt out again. -/
theorem regroup : (bigSep Finset.univ fun c : Dev nD => iprop((bigSep Finset.univ fun x : Cell => iprop(∃ κ : ℕ, cellInv ER (sched m) κ (cellAt c x)))
      ∗ (bigSep Finset.univ fun x : Cell => pos c x) ∗ (bigSep Finset.univ fun x : Cell => mark c x)
      ∗ bigSep Finset.univ fun x : Cell => tok c x) : sProp 𝕄) ⊢ bigSep Finset.univ (share₁ m) := by
  rw [bigSep_sep', bigSep_sep', bigSep_sep',
    ← bigSep_univ_prod (fun cx : Dev nD × Cell => (iprop(∃ κ : ℕ, cellInv ER (sched m) κ (cellAt cx.1 cx.2)) : sProp 𝕄)),
    ← bigSep_univ_prod (fun cx : Dev nD × Cell => (mark cx.1 cx.2 : sProp 𝕄))]
  iintro ⟨HI, Hat, Hm, Ht⟩
  ihave HK := (BI.bigSep_exists_pi Finset.univ (fun (cx : Dev nD × Cell) (κ : ℕ) => (cellInv ER (sched m) κ (cellAt cx.1 cx.2) : sProp 𝕄))) $$ HI
  icases HK with ⟨%K, HI⟩
  ihave Hd := (deal_duties (F := F)) $$ Ht
  have hK : iprop(known m K ∗ (bigSep Finset.univ fun c : Dev nD => bigSep Finset.univ fun x : Cell => pos c x)
      ∗ bigSep Finset.univ fun c : Dev nD => duties (F := F) c) ⊢ bigSep Finset.univ (share₁ m) := by
    refine (sep_mono_left (BI.bigSep_of_persistent (Finset.univ : Finset (Dev nD)) (known m K))).trans ?_
    rw [← bigSep_sep', ← bigSep_sep']
    refine bigSep_mono fun c _ => ?_
    unfold share₁
    show _ ⊢ (_ : sProp 𝕄)
    iintro H
    iexists K
    iexact H
  iapply hK
  isplitl [HI Hm]
  · unfold known; isplitl [HI] <;> iassumption
  isplitl [Hat] <;> iassumption

/-- All devices' semaphores and shares at once become what each of them starts the protocol from. -/
theorem deal : (bigSep Finset.univ fun c => iprop(Pipeline.ownSems0 (Ix := Unit) (Name := ℕ) (U := UU) (Lvl := ℕ) (Val := Elt F) (τ := τ) own c
      ∗ unscopedSems0 c ∗ share₀ m c) : sProp 𝕄)
    ⊢ |={Set.univ}=> bigSep Finset.univ (share₁ m) := by
  have h1 (c : Dev nD) : iprop(Pipeline.ownSems0 (Ix := Unit) (Name := ℕ) (U := UU) (Lvl := ℕ) (Val := Elt F) (τ := τ) own c
        ∗ unscopedSems0 c ∗ share₀ m c)
      ⊢ (|={Set.univ}=> iprop((bigSep Finset.univ fun x : Cell => iprop(∃ κ : ℕ, cellInv ER (sched m) κ (cellAt c x)))
          ∗ (bigSep Finset.univ fun x : Cell => pos c x) ∗ (bigSep Finset.univ fun x : Cell => mark c x)
          ∗ bigSep Finset.univ fun x : Cell => tok c x) : sProp 𝕄) := by
    unfold share₀
    iintro ⟨Ho, Hu, Hst, Hrest⟩
    imod (alloc_one m c) $$ [Ho Hu Hst] with HI
    · isplitl [Ho Hu]
      · iapply (Entails.of_eq (counters_eq c)); isplitl [Hu] <;> iassumption
      · iexact Hst
    imodintro
    isplitl [HI] <;> iassumption
  exact ((bigSep_mono fun c _ => h1 c).trans (bigSep_fupd _ _)).trans (BI.fupd_mono (regroup m))

end Deal

/-! ## The credit -/

/-- What every device owes its peer on one semaphore, it is dealt itself as credit on that semaphore. -/
theorem credit_of_peer (c : Dev nD) (x : Cell) :
    (Pipeline.launchCred (fun d => tallyAt (cellAt (peer d) x) () x.amt) c : sProp 𝕄) ⊢ crd c x := by
  have h : tallyOn (cellAt c x) (launchCredit (Pipeline.owing fun d => tallyAt (cellAt (peer d) x) () x.amt) 0 (cellAt c x))
      = (tallyAt (cellAt c x) () x.amt : CellTallies nD τ sig Unit) := by
    unfold tallyAt
    refine congrArg _ (Finsupp.ext fun u => ?_)
    rw [Pipeline.launchCredit_owing, Finsupp.single_eq_same, Finset.sum_eq_single (peer c)]
    · exact (tallyAt_apply _ _ _ _ _).trans (if_pos ⟨by rw [peer_peer], rfl⟩)
    · intro d _ hd
      exact (tallyAt_apply _ _ _ _ _).trans (if_neg fun h => hd (by rw [(cellAt_inj h.1).1, peer_peer]))
    · intro h; exact absurd (Finset.mem_univ _) h
  exact (Pipeline.launchCred_elim _ c x.sem).trans (Entails.of_eq (congrArg cred h))

theorem deal_credits (c : Dev nD) : (Pipeline.launchCred owe3 c : sProp 𝕄) ⊢ credits c := by
  have h : (owe3 : Dev nD → CellTallies nD τ sig Unit) = fun d => (tallyAt (cellAt (peer d) (.recv 1)) () (Cell.recv 1).amt
      + tallyAt (cellAt (peer d) (.recv 0)) () (Cell.recv 0).amt) + tallyAt (cellAt (peer d) .bar) () Cell.bar.amt := rfl
  rw [h, Pipeline.launchCred_add, Pipeline.launchCred_add]
  unfold credits
  iintro ⟨⟨H1, H0⟩, HB⟩
  isplitl [HB]; · iapply (credit_of_peer c .bar); iexact HB
  isplitl [H0]; · iapply (credit_of_peer c (.recv 0)); iexact H0
  iapply (credit_of_peer c (.recv 1)); iexact H1

end Cert.Pairs

end
-- ==== Proof.Launch.lean ====
/-
# The program's run on the mesh

Every device runs the kernel once, with one window: the staging buffer of the result.
-/
module

public import proofs.«01_k».proof.Proof.Deal
public import Idealize.ShloMosaic.Lib.Pipeline.Quiescent

@[expose] public section

noncomputable section

namespace Cert.Pairs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What holds before and after the kernel -/

/-- What the launch gives a device besides its scratch buffers: the protocol's start, and its argument. -/
def start (c : Dev nD) : sProp 𝕄 :=
  iprop((∃ K, ready m K c) ∗ (((c : Thread nD τ).loc main_arg0) ↦{fullShare} m ((c : Thread nD τ).loc main_arg0)))

/-- Before the body and after it. -/
def before (c : Dev nD) : sProp 𝕄 := iprop((∃ K, ready m K c) ∗ memory m c)
def after (c : Dev nD) : sProp 𝕄 := iprop(memory m c ∗ quiet c)

/-- What the device's end still shows: its argument and the barrier's counter. -/
def finish (c : Dev nD) : sProp 𝕄 :=
  iprop((((c : Thread nD τ).loc main_arg0) ↦{fullShare} m ((c : Thread nD τ).loc main_arg0)) ∗ unscopedSems0 c)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => before m c
    | ⟨_ + 1, _⟩ => after m c
  q _ := fullShare
  owed t := match t with
    | ⟨0, _⟩ => owe3 c
    | ⟨_ + 1, _⟩ => 0

theorem share_eq (c : Dev nD) (w : Fin cfg0.W) : (dats m 0 c).share w = fullShare := by unfold Dat.share; split <;> rfl

/-! ## The body's obligation -/

/-- The staging buffer of the result, whole, at given contents. -/
theorem staged (c : Dev nD) (X : (cc0_stg0_0 : Ref sig .tc).ty.Contents (Elt F)) :
    (owns (Ix := Unit) (Name := ℕ) (U := UU) (Lvl := ℕ) (c : Thread nD τ) (Memref.whole cc0_stg0_0) fullShare X : sProp 𝕄)
      = iprop(∃ f : (cc0_stg0_0 : Ref sig .tc).ty.Contents (Elt F), ⌜f = X⌝ ∗ (((c : Thread nD τ).loc cc0_stg0_0) ↦{fullShare} f)) := by
  unfold owns; simp only [Memref.view_whole, View.read_whole, View.set_whole]

abbrev stagedPts (c : Dev nD) (X : (cc0_stg0_0 : Ref sig .tc).ty.Contents (Elt F)) : sProp 𝕄 :=
  iprop(∃ f : (cc0_stg0_0 : Ref sig .tc).ty.Contents (Elt F), ⌜f = X⌝ ∗ (((c : Thread nD τ).loc cc0_stg0_0) ↦{fullShare} f))

def bodyPre (c : Dev nD) : sProp 𝕄 :=
  iprop(before m c ∗ (dats m 0 c).owesAt () t0_0.castSucc ∗ ∃ d, stagedPts c ((dats m 0 c).before (0 : Fin 1) t0_0 d))
def bodyPost (c : Dev nD) : sProp 𝕄 :=
  iprop(after m c ∗ (dats m 0 c).owesAt () t0_0.succ ∗ stagedPts c (outAt m c))

theorem body_meets (c : Dev nD) : bodyPre m c ⊢ wpc c body fun _ => bodyPost m c := by
  unfold bodyPre bodyPost before after Dat.owesAt Pipeline.owesWithin
  rw [show (dats m 0 c).owed t0_0.castSucc = owe3 c from rfl, show (dats m 0 c).owed t0_0.succ = 0 from rfl]
  iintro ⟨⟨⟨%K, HR⟩, HM⟩, ⟨%W, %hW, HO⟩, ⟨%d, %f, %hf, Hout⟩⟩
  iapply (wp_wand Idealize.ShloMosaic.frame (wpE (defs₀ (F := F)) Variants.none (c : Thread nD τ) none) Set.univ) $$ [HR HM HO Hout]
  · iapply (wp_body m K c f W)
    isplitl [HR]; · iexact HR
    isplitl [HM]; · iexact HM
    isplitl [Hout] <;> iassumption
  iintro %u ⟨HM, Hz, Hout, ⟨%W', HO⟩⟩
  isplitl [HM Hz]
  · isplitl [HM] <;> iassumption
  isplitl [HO]
  · iexists W'
    isplitr; · ipureintro; exact fun _ _ => Or.inl trivial
    iexact HO
  iexists outAt m c
  isplitr; · ipureintro; rfl
  iexact Hout

set_option maxRecDepth 4000 in
theorem body_obligation (c : Dev nD) : BodyObligation (dats (F := F) m 0 c) (defs₀ (F := F)) Variants.none () Set.univ := fun t => by
  rw [fin_N0 t, bigSep_W0, bigSep_W0]
  simp only [staged]
  show bodyPre m c ⊢ wpc c (cc0_body (F := F) (Memref.whole main_arg0) (Memref.isWhole_whole _) (Memref.whole cc0_stg0_0) (Memref.isWhole_whole _)
    (Memref.whole cc0_scratch0) (Memref.isWhole_whole _) (Memref.whole cc0_scratch1) (Memref.isWhole_whole _)
    cc0_scratch2 cc0_scratch3 cc0_scratch4) fun _ => bodyPost m c
  rw [body_eq]
  exact body_meets m c

/-! ## The launch's obligations -/

theorem start_intro (c : Dev nD) :
    iprop(Pipeline.unscopedRestP Pipeline.Prefetch.none cfg0.spec c (fun b => m ((c : Thread nD τ).loc b)) ∗ levAts L lv
        ∗ Pipeline.launchCred owe3 c ∗ prngReg c (ρ c) ∗ share₁ m c)
      ⊢ |={Set.univ}=> iprop(start m c ∗ emp) := by
  rw [Pipeline.unscopedRestP_none, unscopedRest0_eq]
  unfold share₁ start ready
  iintro ⟨Harg, Hlev, Hcr, -, ⟨%K, HK, Hat, Hd⟩⟩
  ihave Hc := (deal_credits (F := F) c) $$ Hcr
  imodintro
  isplitl
  · isplitr [Harg]
    · iexists K
      isplitl [HK]; · iexact HK
      isplitl [Hat]; · iexact Hat
      isplitl [Hd]; · iexact Hd
      isplitl [Hc] <;> iassumption
    · iexact Harg
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold start before memory
  iintro ⟨⟨HR, Harg⟩, -, Hx, Hl⟩
  isplitl [HR]; · iexact HR
  isplitl [Harg]; · iexact Harg
  isplitl [Hx] <;> iassumption

theorem leave (c : Dev nD) :
    (dats m 0 c).Φ (Fin.last cfg0.N) ⊢ iprop(finish m c ∗ Pipeline.ownSems0 own c ∗ Pipeline.scopedRest cfg0.spec c) := by
  rw [show (dats m 0 c).Φ (Fin.last cfg0.N) = after m c from rfl, scopedRest0_eq]
  unfold after finish memory
  rw [← counters_eq]
  iintro ⟨⟨Harg, Hx, Hl⟩, Hu, Ho⟩
  isplitl [Harg Hu]
  · isplitl [Harg] <;> iassumption
  isplitl [Ho]; · iexact Ho
  isplitl [Hx] <;> iassumption

/-- The pipeline's own waits are on semaphores ranked below all that a device owes. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_owe3 c _ (by fin_cases w <;> fin_cases s <;> decide +revert)
    · show _ ⊢ MayWait (c : Thread nD τ) _ () 0
      rw [MayWait_zero]; iintro -; iempintro

/-- What is read of a device's end: its argument is as launched and the barrier's counter is at zero. -/
def Ended (c : Dev nD) (s : MemSt nD τ sig (Elt F)) : Prop :=
  s.mem ((c : Thread nD τ).loc main_arg0) = m ((c : Thread nD τ).loc main_arg0)
    ∧ ∀ sm : SemLoc sig, sm.isScoped .tc = false → s.sem ((c.tc : Thread nD τ), sm) = 0

theorem finish_reads (c : Dev nD) (s : Phys nD τ sig (Elt F)) :
    iprop(finish m c ∗ emp ∗ SI s) ⊢ |={Set.univ}=> iprop(⌜Ended m c s.mem⌝ ∗ SI s) := by
  have ha : iprop(SI s ∗ (((c : Thread nD τ).loc main_arg0) ↦{fullShare} m ((c : Thread nD τ).loc main_arg0)))
      ⊢ (<pers> ⌜∀ i ∈ Finset.univ, s.mem.mem ((c : Thread nD τ).loc main_arg0) i = m ((c : Thread nD τ).loc main_arg0) i⌝ : sProp 𝕄) :=
    SI_pointsTo_agree.trans Laws.persistently_pure.2
  unfold finish
  iintro ⟨⟨Harg, Hu⟩, -, HSI⟩
  ihave %h1 := ha $$ [Harg HSI]
  · isplitl [HSI] <;> iassumption
  ihave %h2 := (tcUnscoped_read c s) $$ [Hu HSI]
  · isplitl [Hu] <;> iassumption
  imodintro
  isplitr
  · ipureintro; exact ⟨funext fun i => h1 i (Finset.mem_univ i), h2⟩
  iexact HSI

/-! ## The run -/

/-- The array behind the window, after the run. -/
def finalOut (c : Dev nD) : Buf (Elt F) ((cfg0.win (0 : Fin 1)).arr.view.loc (c : Thread nD τ)) := (dats m 0 c).arrAt (0 : Fin 1) cfg0.N

set_option maxRecDepth 8000 in
/-- Every run of the program ends, with each device's result array at `finalOut`, its argument as launched and every counter
    at zero. -/
theorem run_main : θ_run defs (onTc (τ := τ) (main (F := F))) ⟨m, fun _ => 0, ρ⟩ fun r =>
    (∀ c : Dev nD, r.2.mem ((cfg0.win (0 : Fin 1)).arr.view.loc (c : Thread nD τ)) = finalOut m c
      ∧ r.2.mem ((c : Thread nD τ).loc main_arg0) = m ((c : Thread nD τ).loc main_arg0)) ∧ r.2.sem = fun _ => 0 :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ Variants.none m ρ main
    (hmain := fun _ => rfl)
    (hbody := body_obligation m) (hne := block_pos0) (harr := arr_whole0) (hstage := stage_whole0) (hshare := share_eq m)
    (hdistinct := winFacts0.arr_inj)
    (O₀ := owe3) (howed₀ := fun _ => rfl) (howedN := fun _ => rfl)
    (L := L) (lv := lv) (hL := L_of_ne) (hwaits := waits m)
    (G := share₀ m) (G' := share₁ m) (u₀ := u₀)
    (hu₀ := by
      unfold u₀
      iintro Hu
      ihave H := (ownU_pair _ _) $$ Hu
      icases H with ⟨HP, HX⟩
      imod (fund_shares m) $$ HX with HG
      imodintro
      isplitl [HP] <;> iassumption)
    (hglob := deal m)
    (hA := fun _ _ => rfl) (hpf := fun _ k => k.elim0)
    (X := start m) (Y := finish m) (Z := fun _ => iprop(emp))
    (hX := start_intro m ρ) (hin := enter m) (hout := leave m)
    (QY := Ended m) (hY := finish_reads m)
    (hQ := fun _ h hs => ⟨fun c => ⟨(h c).1 (0 : Fin 1), (h c).2.2.1⟩, sem_eq_zero hs fun c => (h c).2.2.2⟩)

end Cert.Pairs

end
-- ==== Proof.Result.lean ====
/-
# What the result array holds

The run leaves the computed columns in the result array. Element (r, j) of device `c`'s result is the sum of two elements
of the launched arguments, `c`'s and its peer's, both at row r and column 256 · side + j.
-/
module

public import proofs.«01_k».proof.Proof.Launch
public import Idealize.ShloMosaic.Lib.Pipeline.Value
public import Idealize.ShloMosaic.Lib.Pointwise.Index

@[expose] public section

noncomputable section

namespace Cert.Pairs

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ)

/-- The one grid point writes the computed columns over the whole result array. -/
theorem finalOut_eq (c : Dev nD) : finalOut m c = outAt m c := by
  unfold finalOut
  rw [show cfg0.N = (t0_0 : Fin cfg0.N).val + 1 from rfl, (dats m 0 c).arrAt_succ (0 : Fin 1) t0_0, if_pos (flush0_0 t0_0)]
  refine Eq.trans ?_ (View.read_write_univ (v := ((cfg0.win (0 : Fin 1)).blk t0_0).view) ((dats m 0 c).arrAt 0 t0_0.val) (outAt m c))
  have hz : (fun a => win0_0.index t0_0 a * main_v1.ty.shape.size a) = fun _ => 0 := funext fun a => by fin_cases a <;> decide
  exact (Memref.read_access_unit_zero (Elt F) main_v1 hz (fun a => by fin_cases a <;> decide) _).symm

/-- Column `j` of the columns of side `y`, as a column of the whole array. -/
def colAt (y : Fin 2) (j : Fin 256) : Fin 512 := ⟨y.val * 256 + j.val, by omega⟩

/-- An array's element is the argument's at the same row and column: the argument's first axis has one index only. -/
theorem xval_apply (c : Dev nD) (r : Fin 256) (q : Fin 512) :
    xval m c (ix2 r q) = m ((c : Thread nD τ).loc main_arg0) (ix3 (0 : Fin 1) r q) := by
  unfold xval
  rw [Memref.read_squeeze_slice (hc := by decide), shapeCast_dropUnit_apply]
  refine congrArg (m ((c : Thread nD τ).loc main_arg0)) (funext fun a => Fin.ext ?_)
  fin_cases a <;> simp <;> rfl

theorem colsOf_apply (y : Fin 2) (f : (cc0_scratch0 : Ref sig .tc).ty.Contents (Elt F)) (r j : Fin 256) :
    colsOf y f (ix2 r j) = f (ix2 r (colAt y j)) := by
  refine congrArg f (funext fun a => Fin.ext ?_)
  show ((colsRect y).emb (ix2 r j) a).val = _
  simp only [Rect.emb_apply]
  fin_cases a <;> simp [colAt, Nat.mul_comm]

/-- Element (r, j) of what device `c` computes. -/
theorem outAt_apply (c : Dev nD) (r j : Fin 256) :
    outAt m c (ix2 r j) = FloatOps.addf (m ((c : Thread nD τ).loc main_arg0) (ix3 (0 : Fin 1) r (colAt (side c) j)))
      (m ((peer c : Thread nD τ).loc main_arg0) (ix3 (0 : Fin 1) r (colAt (side c) j))) := by
  show FloatOps.addf (colsOf (side c) (xval m c) (ix2 r j)) (colsOf (side c) (xval m (peer c)) (ix2 r j)) = _
  rw [colsOf_apply, colsOf_apply, xval_apply, xval_apply]

end Cert.Pairs

end
-- ==== Proof.Reference.lean ====
/-
# What the reference computes

Over the extended reals, element (r, q) of the reference's result is the sum of the two elements of its argument at row r
and column q.
-/
module

public import proofs.«01_k».proof.Proof.Gen.ReferenceIdeal.Run
public import Idealize.ShloMosaic.Lib.Pointwise.Reduce
public import Idealize.ShloMosaic.PureOps.Ideal.Laws

@[expose] public section

noncomputable section

namespace Cert.Pairs

open Cert.ReferenceIdeal Cert.ReferenceIdeal.Gen
open Idealize.ShloMosaic Idealize.ShloMosaic.TcCoe

/-- The reference's argument, two planes, and its result, one plane, over the extended reals. -/
abbrev Planes : Type := (⟨3, ![2, 256, 512]⟩ : Shape).Idx → EReal
abbrev Plane : Type := (⟨2, ![256, 512]⟩ : Shape).Idx → EReal

/-- The reference's result on the argument `X`. -/
def total (X : Planes) : Plane :=
  Host.reduceAdd (F := Ideal) (φ := .f32) X (constant (F := Ideal) S_ .f32 0x00000000#32) reducesTo_S2x256x512_S256x512_d0 h_S_

theorem total_apply (X : Planes) (r : Fin 256) (q : Fin 512) :
    total X (ix2 r q) = X (ix3 (0 : Fin 2) r q) + X (ix3 (1 : Fin 2) r q) := by
  refine (Ideal.hostReduceAdd_r3_a0 reducesTo_S2x256x512_S256x512_d0 X (Ideal.ofBits .f32 0x00000000#32) (ix2 r q)).trans ?_
  rw [Ideal.ofBits_zero_f32, zero_add, Fin.sum_univ_two]
  rfl

end Cert.Pairs

end
-- ==== Proof.Equation.lean ====
/-
# The kernel's result is the reference's

Device `c` holds plane `side c` of the reference's argument, and its peer the other plane, so the sum of the two devices'
arrays is the sum of the two planes; on the devices of side 1 the two summands come in the other order. Each device's
result is the block of columns of the reference's result that its side names.
-/
module

public import proofs.«01_k».proof.Proof.Result
public import proofs.«01_k».proof.Proof.Reference
public import Idealize.ShloMosaic.Lib.Layout

@[expose] public section

noncomputable section

namespace Cert.Pairs

open Idealize.ShloMosaic Idealize.ShloMosaic.TcCoe

/-- The plane of the reference's argument that device `c` starts with, -/
abbrev planeOf (c : Dev Cert.KernelIdeal.nD) (X : Planes) : (⟨3, ![1, 256, 512]⟩ : Shape).Idx → EReal :=
  Layout.blockN ⟨3, ![1, 256, 512]⟩ ⟨3, ![2, 256, 512]⟩ (Layout.meshBlock [2, 2, 4] ![[1], [], []] c) X
/-- and the columns of the reference's result that it ends with. -/
abbrev columnsOf (c : Dev Cert.KernelIdeal.nD) (V : Plane) : (⟨2, ![256, 256]⟩ : Shape).Idx → EReal :=
  Layout.blockN ⟨2, ![256, 256]⟩ ⟨2, ![256, 512]⟩ (Layout.meshBlock [2, 2, 4] ![[], [1]] c) V

theorem meshLin_side (c : Dev Cert.KernelIdeal.nD) : Layout.meshLin [2, 2, 4] c.val [1] = (side c).val := by
  revert c; decide

theorem planeOf_apply (c : Dev Cert.KernelIdeal.nD) (X : Planes) (r : Fin 256) (q : Fin 512) :
    planeOf c X (ix3 (0 : Fin 1) r q) = X (ix3 (side c) r q) := by
  refine congrArg X (funext fun a => Fin.ext ?_)
  rw [Layout.TilesN.idx_val]
  have h := meshLin_side c
  fin_cases a
  · exact (by simpa using h)
  · simp [Layout.meshLin]
  · simp [Layout.meshLin]

theorem columnsOf_apply (c : Dev Cert.KernelIdeal.nD) (V : Plane) (r j : Fin 256) :
    columnsOf c V (ix2 r j) = V (ix2 r (colAt (side c) j)) := by
  refine congrArg V (funext fun a => Fin.ext ?_)
  rw [Layout.TilesN.idx_val]
  have h := meshLin_side c
  fin_cases a
  · simp [Layout.meshLin]
  · simpa [colAt] using h

/-- The sum of the planes of a device and its peer is the sum of the two planes. -/
theorem planes_add (c : Dev Cert.KernelIdeal.nD) (f : Fin 2 → EReal) : f (side c) + f (side (peer c)) = f 0 + f 1 := by
  have hne := side_peer_ne c
  generalize side c = a, side (peer c) = b at hne ⊢
  fin_cases a <;> fin_cases b
  · exact absurd rfl hne
  · rfl
  · exact add_comm _ _
  · exact absurd rfl hne

/-- What device `c` computes is its columns of the reference's result. -/
theorem outAt_eq_total (m : (ℓ : Loc Cert.KernelIdeal.nD Cert.KernelIdeal.τ Cert.KernelIdeal.sig) → Buf (Elt Ideal) ℓ) (X : Planes)
    (hX : ∀ c : Dev Cert.KernelIdeal.nD, m ((c : Thread Cert.KernelIdeal.nD Cert.KernelIdeal.τ).loc Cert.KernelIdeal.main_arg0) = planeOf c X)
    (c : Dev Cert.KernelIdeal.nD) : outAt m c = columnsOf c (total X) := by
  funext i
  obtain ⟨r, j, rfl⟩ : ∃ r j : Fin 256, i = ix2 r j := ⟨i 0, i 1, eq_ix2 i⟩
  refine (outAt_apply m c r j).trans ?_
  rw [hX c, hX (peer c)]
  show planeOf c X (ix3 (0 : Fin 1) r (colAt (side c) j)) + planeOf (peer c) X (ix3 (0 : Fin 1) r (colAt (side c) j))
    = columnsOf c (total X) (ix2 r j)
  rw [planeOf_apply, planeOf_apply, columnsOf_apply, total_apply]
  exact planes_add c fun y => X (ix3 y r (colAt (side c) j))

end Cert.Pairs

end
-- ==== Proof.lean ====
/-
# The claims

Both programs end cleanly with their arguments as launched and every counter at zero; the reference does too; and over the
extended reals each device ends with its columns of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Pairs

/-- At any float values, every run of the program ends with its arguments as launched and every counter at zero. -/
theorem run_quiet {F : FTy → Type} [FloatOps F]
    (m : (ℓ : Loc Cert.KernelIdeal.nD Cert.KernelIdeal.τ Cert.KernelIdeal.sig) → Buf (Elt F) ℓ) (g : Dev Cert.KernelIdeal.nD → PrngReg) :
    θ_run Cert.KernelIdeal.defs (onTc (τ := Cert.KernelIdeal.τ) (Cert.KernelIdeal.main (F := F))) ⟨m, fun _ => 0, g⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c).2, h.2⟩) (run_main m g)

/-! The bit-exact program has the same text as this one, so the run above at the bit-exact values is its run too. -/

theorem bodies_eq {F : FTy → Type} [FloatOps F] : (Cert.Kernel.defs₀ : Defs _ _ _ (Elt F) _) = Cert.KernelIdeal.defs₀ := by
  refine congrArg Defs.onTc (funext fun l => ?_)
  obtain ⟨l, hl⟩ := l
  obtain rfl : l = 0 := by omega
  rfl

theorem defs_eq {F : FTy → Type} [FloatOps F] : (Cert.Kernel.defs : Defs _ _ _ (Elt F) _) = Cert.KernelIdeal.defs :=
  congrArg (Pipeline.defs Cert.Kernel.pcfgs) bodies_eq

theorem frame_kernel : Cert.quiescent_Kernel := fun m g _ =>
  (congrArg (fun D => θ_run D (onTc (τ := Cert.Kernel.τ) (Cert.Kernel.main (F := Bits))) ⟨m, fun _ => 0, g⟩ fun r =>
    (∀ c : Dev Cert.Kernel.nD, r.2.mem ((c.tc : Thread Cert.Kernel.nD Cert.Kernel.τ).loc Cert.Kernel.main_arg0)
      = m ((c.tc : Thread Cert.Kernel.nD Cert.Kernel.τ).loc Cert.Kernel.main_arg0)) ∧ r.2.sem = fun _ => 0) defs_eq).mpr
    (run_quiet (F := Bits) m g)

theorem frame_ideal : Cert.quiescent_KernelIdeal := fun m g _ => run_quiet (F := Ideal) m g

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- On planes laid over the mesh axis `y`, every device ends with its columns of the reference's result. -/
theorem value : Cert.algebraic_KernelIdeal_ReferenceIdeal := fun m g m' g' _ hX =>
  ⟨total (m' (((0 : Dev Cert.ReferenceIdeal.nD) : Thread Cert.ReferenceIdeal.nD Cert.ReferenceIdeal.τ).loc Cert.ReferenceIdeal.main_arg0)),
    (θ_run Cert.KernelIdeal.defs _ _).mono
      (fun _ h c => ⟨((h.1 c).1.trans (finalOut_eq m c)).trans (outAt_eq_total m _ hX c), (h.1 c).2⟩) (run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
